-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e_over_sqrt_d" .f32 0x3DE995B3#32 (((Real.sqrt 160)⁻¹ * (Real.log 2)⁻¹ : ℝ) : EReal)
  ∧ IdealRules.bf16_pack.Statement Cert.KernelIdeal.S72x256
  ∧ IdealRules.bf16_pack.Statement Cert.KernelIdeal.S56x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x768x18x160 : Shape := ⟨4, ![2, 768, 18, 160]⟩
abbrev S2x768x18 : Shape := ⟨3, ![2, 768, 18]⟩
abbrev S2x768x10x160 : Shape := ⟨4, ![2, 768, 10, 160]⟩
abbrev S2x768x10 : Shape := ⟨3, ![2, 768, 10]⟩
abbrev S18x14 : Shape := ⟨2, ![18, 14]⟩
abbrev S14x10 : Shape := ⟨2, ![14, 10]⟩
abbrev S_ : Shape := ⟨0, ![]⟩

class Facts : Prop where
  bcast_S_S2x768x18x160 : S_.BroadcastsInDim S2x768x18x160 (![] : Fin 0 → Fin S2x768x18x160.rank)
  reducesTo_S2x768x18x160_S_d0_1_2_3 : S2x768x18x160.ReducesTo [0, 1, 2, 3] S_
  h_S_ : 0 < S_.numel
  bcast_S_S2x768x18 : S_.BroadcastsInDim S2x768x18 (![] : Fin 0 → Fin S2x768x18.rank)
  reducesTo_S2x768x18_S_d0_1_2 : S2x768x18.ReducesTo [0, 1, 2] S_
  bcast_S_S18x14 : S_.BroadcastsInDim S18x14 (![] : Fin 0 → Fin S18x14.rank)
  reducesTo_S18x14_S_d0_1 : S18x14.ReducesTo [0, 1] S_
  bcast_S_S14x10 : S_.BroadcastsInDim S14x10 (![] : Fin 0 → Fin S14x10.rank)
  reducesTo_S14x10_S_d0_1 : S14x10.ReducesTo [0, 1] S_

variable [Facts]

def fn_part1 {F : FTy → Type} [FloatOps F] (main_arg6 : FVec F S18x14 .f32) (main_arg7 : FVec F S14x10 .f32) (main_v13 : IVec S_ 1) (main_v16 : IVec S2x768x18 1) : IVec S_ 1 :=
  let main_c_5 : IVec S_ 1 := constantI S_ 1 1#1
  let main_v17 : IVec S_ 1 := (fun x v => Host.reduce IntOp.andi x v reducesTo_S2x768x18_S_d0_1_2 h_S_) main_v16 main_c_5
  let main_v18 : IVec S_ 1 := andi main_v13 main_v17
  let main_v19 : FVec F S18x14 .f32 := Host.absf main_arg6
  let main_cst_6 : FVec F S_ .f32 := constant S_ .f32 0x7F800000#32
  let main_v20 : FVec F S18x14 .f32 := broadcastInDim S18x14 ![] bcast_S_S18x14 main_cst_6
  let main_v21 : IVec S18x14 1 := cmpf .olt main_v19 main_v20
  let main_c_7 : IVec S_ 1 := constantI S_ 1 1#1
  let main_v22 : IVec S_ 1 := (fun x v => Host.reduce IntOp.andi x v reducesTo_S18x14_S_d0_1 h_S_) main_v21 main_c_7
  let main_v23 : IVec S_ 1 := andi main_v18 main_v22
  let main_v24 : FVec F S14x10 .f32 := Host.absf main_arg7
  let main_cst_8 : FVec F S_ .f32 := constant S_ .f32 0x7F800000#32
  let main_v25 : FVec F S14x10 .f32 := broadcastInDim S14x10 ![] bcast_S_S14x10 main_cst_8
  let main_v26 : IVec S14x10 1 := cmpf .olt main_v24 main_v25
  let main_c_9 : IVec S_ 1 := constantI S_ 1 1#1
  let main_v27 : IVec S_ 1 := (fun x v => Host.reduce IntOp.andi x v reducesTo_S14x10_S_d0_1 h_S_) main_v26 main_c_9
  let main_v28 : IVec S_ 1 := andi main_v23 main_v27
  main_v28

def fn {F : FTy → Type} [FloatOps F] (main_arg0 : FVec F S2x768x18x160 .f32) (main_arg1 : FVec F S2x768x18 .f32) (main_arg2 : FVec F S2x768x18x160 .f32) (main_arg3 : FVec F S2x768x18 .f32) (main_arg4 : FVec F S2x768x10x160 .fp8e4m3) (main_arg5 : FVec F S2x768x10 .f32) (main_arg6 : FVec F S18x14 .f32) (main_arg7 : FVec F S14x10 .f32) : IVec S_ 1 :=
  let main_v0 : FVec F S2x768x18x160 .f32 := Host.absf main_arg0
  let main_cst : FVec F S_ .f32 := constant S_ .f32 0x7F800000#32
  let main_v1 : FVec F S2x768x18x160 .f32 := broadcastInDim S2x768x18x160 ![] bcast_S_S2x768x18x160 main_cst
  let main_v2 : IVec S2x768x18x160 1 := cmpf .olt main_v0 main_v1
  let main_c : IVec S_ 1 := constantI S_ 1 1#1
  let main_v3 : IVec S_ 1 := (fun x v => Host.reduce IntOp.andi x v reducesTo_S2x768x18x160_S_d0_1_2_3 h_S_) main_v2 main_c
  let main_v4 : FVec F S2x768x18 .f32 := Host.absf main_arg1
  let main_cst_0 : FVec F S_ .f32 := constant S_ .f32 0x7F800000#32
  let main_v5 : FVec F S2x768x18 .f32 := broadcastInDim S2x768x18 ![] bcast_S_S2x768x18 main_cst_0
  let main_v6 : IVec S2x768x18 1 := cmpf .olt main_v4 main_v5
  let main_c_1 : IVec S_ 1 := constantI S_ 1 1#1
  let main_v7 : IVec S_ 1 := (fun x v => Host.reduce IntOp.andi x v reducesTo_S2x768x18_S_d0_1_2 h_S_) main_v6 main_c_1
  let main_v8 : IVec S_ 1 := andi main_v3 main_v7
  let main_v9 : FVec F S2x768x18x160 .f32 := Host.absf main_arg2
  let main_cst_2 : FVec F S_ .f32 := constant S_ .f32 0x7F800000#32
  let main_v10 : FVec F S2x768x18x160 .f32 := broadcastInDim S2x768x18x160 ![] bcast_S_S2x768x18x160 main_cst_2
  let main_v11 : IVec S2x768x18x160 1 := cmpf .olt main_v9 main_v10
  let main_c_3 : IVec S_ 1 := constantI S_ 1 1#1
  let main_v12 : IVec S_ 1 := (fun x v => Host.reduce IntOp.andi x v reducesTo_S2x768x18x160_S_d0_1_2_3 h_S_) main_v11 main_c_3
  let main_v13 : IVec S_ 1 := andi main_v8 main_v12
  let main_v14 : FVec F S2x768x18 .f32 := Host.absf main_arg3
  let main_cst_4 : FVec F S_ .f32 := constant S_ .f32 0x7F800000#32
  let main_v15 : FVec F S2x768x18 .f32 := broadcastInDim S2x768x18 ![] bcast_S_S2x768x18 main_cst_4
  let main_v16 : IVec S2x768x18 1 := cmpf .olt main_v14 main_v15
  fn_part1 (F := F) main_arg6 main_arg7 main_v13 main_v16
-- ==== Kernel.lean ====
abbrev S2x768x18x160 : Shape := ⟨4, ![2, 768, 18, 160]⟩
abbrev S2x768x18 : Shape := ⟨3, ![2, 768, 18]⟩
abbrev S2x768x10x160 : Shape := ⟨4, ![2, 768, 10, 160]⟩
abbrev S2x768x10 : Shape := ⟨3, ![2, 768, 10]⟩
abbrev S18x14 : Shape := ⟨2, ![18, 14]⟩
abbrev S14x10 : Shape := ⟨2, ![14, 10]⟩
abbrev S2x18x768x160 : Shape := ⟨4, ![2, 18, 768, 160]⟩
abbrev S2x10x768x160 : Shape := ⟨4, ![2, 10, 768, 160]⟩
abbrev S2x18x768 : Shape := ⟨3, ![2, 18, 768]⟩
abbrev S2x10x768 : Shape := ⟨3, ![2, 10, 768]⟩
abbrev S1x2x1x10x1x768 : Shape := ⟨6, ![1, 2, 1, 10, 1, 768]⟩
abbrev S1x2x4x10x1x768 : Shape := ⟨6, ![1, 2, 4, 10, 1, 768]⟩
abbrev S2x40x768 : Shape := ⟨3, ![2, 40, 768]⟩
abbrev S4x4 : Shape := ⟨2, ![4, 4]⟩
abbrev S_ : Shape := ⟨0, ![]⟩
abbrev S4x1x4x1 : Shape := ⟨4, ![4, 1, 4, 1]⟩
abbrev S14x18 : Shape := ⟨2, ![14, 18]⟩
abbrev S1x14x1x18 : Shape := ⟨4, ![1, 14, 1, 18]⟩
abbrev S4x14x4x18 : Shape := ⟨4, ![4, 14, 4, 18]⟩
abbrev S56x72 : Shape := ⟨2, ![56, 72]⟩
abbrev S56x216 : Shape := ⟨2, ![56, 216]⟩
abbrev S168x216 : Shape := ⟨2, ![168, 216]⟩
abbrev S10x14 : Shape := ⟨2, ![10, 14]⟩
abbrev S1x10x1x14 : Shape := ⟨4, ![1, 10, 1, 14]⟩
abbrev S4x10x4x14 : Shape := ⟨4, ![4, 10, 4, 14]⟩
abbrev S40x56 : Shape := ⟨2, ![40, 56]⟩
abbrev S40x224 : Shape := ⟨2, ![40, 224]⟩
abbrev S80x224 : Shape := ⟨2, ![80, 224]⟩
abbrev S2x768x1600 : Shape := ⟨3, ![2, 768, 1600]⟩
abbrev S1x18x256x160 : Shape := ⟨4, ![1, 18, 256, 160]⟩
abbrev S1x18x768x160 : Shape := ⟨4, ![1, 18, 768, 160]⟩
abbrev S1x10x768x160 : Shape := ⟨4, ![1, 10, 768, 160]⟩
abbrev S1x256x18 : Shape := ⟨3, ![1, 256, 18]⟩
abbrev S1x18x768 : Shape := ⟨3, ![1, 18, 768]⟩
abbrev S1x40x768 : Shape := ⟨3, ![1, 40, 768]⟩
abbrev S1x256x1600 : Shape := ⟨3, ![1, 256, 1600]⟩
abbrev S6x4608x128 : Shape := ⟨3, ![6, 4608, 128]⟩
abbrev S6x2560x128 : Shape := ⟨3, ![6, 2560, 128]⟩
abbrev S56x768 : Shape := ⟨2, ![56, 768]⟩
abbrev S1x1x256x160 : Shape := ⟨4, ![1, 1, 256, 160]⟩
abbrev S256x160 : Shape := ⟨2, ![256, 160]⟩
abbrev S1x1x768x160 : Shape := ⟨4, ![1, 1, 768, 160]⟩
abbrev S768x160 : Shape := ⟨2, ![768, 160]⟩
abbrev S256x768 : Shape := ⟨2, ![256, 768]⟩
abbrev S1x256x1 : Shape := ⟨3, ![1, 256, 1]⟩
abbrev S256x1 : Shape := ⟨2, ![256, 1]⟩
abbrev S1x1x768 : Shape := ⟨3, ![1, 1, 768]⟩
abbrev S1x768 : Shape := ⟨2, ![1, 768]⟩
abbrev S256x128 : Shape := ⟨2, ![256, 128]⟩
abbrev S1x256x128 : Shape := ⟨3, ![1, 256, 128]⟩
abbrev S1x72x128 : Shape := ⟨3, ![1, 72, 128]⟩
abbrev S72x128 : Shape := ⟨2, ![72, 128]⟩
abbrev S72x256 : Shape := ⟨2, ![72, 256]⟩
abbrev S216x256 : Shape := ⟨2, ![216, 256]⟩
abbrev S168x256 : Shape := ⟨2, ![168, 256]⟩
abbrev S56x256 : Shape := ⟨2, ![56, 256]⟩
abbrev S56 : Shape := ⟨1, ![56]⟩
abbrev S56x1 : Shape := ⟨2, ![56, 1]⟩
abbrev S224x256 : Shape := ⟨2, ![224, 256]⟩
abbrev S80x256 : Shape := ⟨2, ![80, 256]⟩
abbrev S40x256 : Shape := ⟨2, ![40, 256]⟩
abbrev S1x40x256 : Shape := ⟨3, ![1, 40, 256]⟩
abbrev S40x128 : Shape := ⟨2, ![40, 128]⟩
abbrev S1x40x128 : Shape := ⟨3, ![1, 40, 128]⟩
abbrev S1x256x160 : Shape := ⟨3, ![1, 256, 160]⟩

abbrev nBuf : Space → Nat
  | .hbm => 128
  | .vmem => 20
  | .smem => 0
  | _ => 0

abbrev bufTy : (tb : Table) → Fin (tcTables nBuf tb) → BufTy
  | .hbm, ⟨0, _⟩ => ⟨S2x768x18x160, .f32⟩
  | .hbm, ⟨1, _⟩ => ⟨S2x768x18, .f32⟩
  | .hbm, ⟨2, _⟩ => ⟨S2x768x18x160, .f32⟩
  | .hbm, ⟨3, _⟩ => ⟨S2x768x18, .f32⟩
  | .hbm, ⟨4, _⟩ => ⟨S2x768x10x160, .fp8e4m3⟩
  | .hbm, ⟨5, _⟩ => ⟨S2x768x10, .f32⟩
  | .hbm, ⟨6, _⟩ => ⟨S18x14, .f32⟩
  | .hbm, ⟨7, _⟩ => ⟨S14x10, .f32⟩
  | .hbm, ⟨8, _⟩ => ⟨S2x768x18x160, .fp8e4m3⟩
  | .hbm, ⟨9, _⟩ => ⟨S2x768x18x160, .fp8e4m3⟩
  | .hbm, ⟨10, _⟩ => ⟨S2x18x768x160, .fp8e4m3⟩
  | .hbm, ⟨11, _⟩ => ⟨S2x18x768x160, .fp8e4m3⟩
  | .hbm, ⟨12, _⟩ => ⟨S2x10x768x160, .fp8e4m3⟩
  | .hbm, ⟨13, _⟩ => ⟨S2x18x768, .f32⟩
  | .hbm, ⟨14, _⟩ => ⟨S2x10x768, .f32⟩
  | .hbm, ⟨15, _⟩ => ⟨S1x2x1x10x1x768, .f32⟩
  | .hbm, ⟨16, _⟩ => ⟨S1x2x4x10x1x768, .f32⟩
  | .hbm, ⟨17, _⟩ => ⟨S2x40x768, .f32⟩
  | .hbm, ⟨18, _⟩ => ⟨S18x14, .bf16⟩
  | .hbm, ⟨19, _⟩ => ⟨S18x14, .f32⟩
  | .hbm, ⟨20, _⟩ => ⟨S18x14, .f32⟩
  | .hbm, ⟨21, _⟩ => ⟨S18x14, .bf16⟩
  | .hbm, ⟨22, _⟩ => ⟨S18x14, .f32⟩
  | .hbm, ⟨23, _⟩ => ⟨S18x14, .f32⟩
  | .hbm, ⟨24, _⟩ => ⟨S4x4, .i32⟩
  | .hbm, ⟨25, _⟩ => ⟨S4x4, .i32⟩
  | .hbm, ⟨26, _⟩ => ⟨S_, .i32⟩
  | .hbm, ⟨27, _⟩ => ⟨S4x4, .i32⟩
  | .hbm, ⟨28, _⟩ => ⟨S4x4, .i32⟩
  | .hbm, ⟨29, _⟩ => ⟨S4x4, .i1⟩
  | .hbm, ⟨30, _⟩ => ⟨S4x4, .f32⟩
  | .hbm, ⟨31, _⟩ => ⟨S4x1x4x1, .f32⟩
  | .hbm, ⟨32, _⟩ => ⟨S14x18, .f32⟩
  | .hbm, ⟨33, _⟩ => ⟨S1x14x1x18, .f32⟩
  | .hbm, ⟨34, _⟩ => ⟨S4x14x4x18, .f32⟩
  | .hbm, ⟨35, _⟩ => ⟨S4x14x4x18, .f32⟩
  | .hbm, ⟨36, _⟩ => ⟨S4x14x4x18, .f32⟩
  | .hbm, ⟨37, _⟩ => ⟨S56x72, .f32⟩
  | .hbm, ⟨38, _⟩ => ⟨S4x4, .i32⟩
  | .hbm, ⟨39, _⟩ => ⟨S4x4, .i32⟩
  | .hbm, ⟨40, _⟩ => ⟨S_, .i32⟩
  | .hbm, ⟨41, _⟩ => ⟨S4x4, .i32⟩
  | .hbm, ⟨42, _⟩ => ⟨S4x4, .i32⟩
  | .hbm, ⟨43, _⟩ => ⟨S4x4, .i1⟩
  | .hbm, ⟨44, _⟩ => ⟨S4x4, .f32⟩
  | .hbm, ⟨45, _⟩ => ⟨S4x1x4x1, .f32⟩
  | .hbm, ⟨46, _⟩ => ⟨S14x18, .f32⟩
  | .hbm, ⟨47, _⟩ => ⟨S1x14x1x18, .f32⟩
  | .hbm, ⟨48, _⟩ => ⟨S4x14x4x18, .f32⟩
  | .hbm, ⟨49, _⟩ => ⟨S4x14x4x18, .f32⟩
  | .hbm, ⟨50, _⟩ => ⟨S4x14x4x18, .f32⟩
  | .hbm, ⟨51, _⟩ => ⟨S56x72, .f32⟩
  | .hbm, ⟨52, _⟩ => ⟨S4x4, .i32⟩
  | .hbm, ⟨53, _⟩ => ⟨S4x4, .i32⟩
  | .hbm, ⟨54, _⟩ => ⟨S_, .i32⟩
  | .hbm, ⟨55, _⟩ => ⟨S4x4, .i32⟩
  | .hbm, ⟨56, _⟩ => ⟨S4x4, .i32⟩
  | .hbm, ⟨57, _⟩ => ⟨S4x4, .i1⟩
  | .hbm, ⟨58, _⟩ => ⟨S4x4, .f32⟩
  | .hbm, ⟨59, _⟩ => ⟨S4x1x4x1, .f32⟩
  | .hbm, ⟨60, _⟩ => ⟨S14x18, .f32⟩
  | .hbm, ⟨61, _⟩ => ⟨S1x14x1x18, .f32⟩
  | .hbm, ⟨62, _⟩ => ⟨S4x14x4x18, .f32⟩
  | .hbm, ⟨63, _⟩ => ⟨S4x14x4x18, .f32⟩
  | .hbm, ⟨64, _⟩ => ⟨S4x14x4x18, .f32⟩
  | .hbm, ⟨65, _⟩ => ⟨S56x72, .f32⟩
  | .hbm, ⟨66, _⟩ => ⟨S_, .f32⟩
  | .hbm, ⟨67, _⟩ => ⟨S56x72, .f32⟩
  | .hbm, ⟨68, _⟩ => ⟨S56x216, .f32⟩
  | .hbm, ⟨69, _⟩ => ⟨S56x216, .f32⟩
  | .hbm, ⟨70, _⟩ => ⟨S56x216, .f32⟩
  | .hbm, ⟨71, _⟩ => ⟨S168x216, .f32⟩
  | .hbm, ⟨72, _⟩ => ⟨S168x216, .bf16⟩
  | .hbm, ⟨73, _⟩ => ⟨S14x10, .bf16⟩
  | .hbm, ⟨74, _⟩ => ⟨S14x10, .f32⟩
  | .hbm, ⟨75, _⟩ => ⟨S14x10, .f32⟩
  | .hbm, ⟨76, _⟩ => ⟨S14x10, .bf16⟩
  | .hbm, ⟨77, _⟩ => ⟨S14x10, .f32⟩
  | .hbm, ⟨78, _⟩ => ⟨S14x10, .f32⟩
  | .hbm, ⟨79, _⟩ => ⟨S4x4, .i32⟩
  | .hbm, ⟨80, _⟩ => ⟨S4x4, .i32⟩
  | .hbm, ⟨81, _⟩ => ⟨S_, .i32⟩
  | .hbm, ⟨82, _⟩ => ⟨S4x4, .i32⟩
  | .hbm, ⟨83, _⟩ => ⟨S4x4, .i32⟩
  | .hbm, ⟨84, _⟩ => ⟨S4x4, .i1⟩
  | .hbm, ⟨85, _⟩ => ⟨S4x4, .f32⟩
  | .hbm, ⟨86, _⟩ => ⟨S4x1x4x1, .f32⟩
  | .hbm, ⟨87, _⟩ => ⟨S10x14, .f32⟩
  | .hbm, ⟨88, _⟩ => ⟨S1x10x1x14, .f32⟩
  | .hbm, ⟨89, _⟩ => ⟨S4x10x4x14, .f32⟩
  | .hbm, ⟨90, _⟩ => ⟨S4x10x4x14, .f32⟩
  | .hbm, ⟨91, _⟩ => ⟨S4x10x4x14, .f32⟩
  | .hbm, ⟨92, _⟩ => ⟨S40x56, .f32⟩
  | .hbm, ⟨93, _⟩ => ⟨S4x4, .i32⟩
  | .hbm, ⟨94, _⟩ => ⟨S4x4, .i32⟩
  | .hbm, ⟨95, _⟩ => ⟨S_, .i32⟩
  | .hbm, ⟨96, _⟩ => ⟨S4x4, .i32⟩
  | .hbm, ⟨97, _⟩ => ⟨S4x4, .i32⟩
  | .hbm, ⟨98, _⟩ => ⟨S4x4, .i1⟩
  | .hbm, ⟨99, _⟩ => ⟨S4x4, .f32⟩
  | .hbm, ⟨100, _⟩ => ⟨S4x1x4x1, .f32⟩
  | .hbm, ⟨101, _⟩ => ⟨S10x14, .f32⟩
  | .hbm, ⟨102, _⟩ => ⟨S1x10x1x14, .f32⟩
  | .hbm, ⟨103, _⟩ => ⟨S4x10x4x14, .f32⟩
  | .hbm, ⟨104, _⟩ => ⟨S4x10x4x14, .f32⟩
  | .hbm, ⟨105, _⟩ => ⟨S4x10x4x14, .f32⟩
  | .hbm, ⟨106, _⟩ => ⟨S40x56, .f32⟩
  | .hbm, ⟨107, _⟩ => ⟨S4x4, .i32⟩
  | .hbm, ⟨108, _⟩ => ⟨S4x4, .i32⟩
  | .hbm, ⟨109, _⟩ => ⟨S_, .i32⟩
  | .hbm, ⟨110, _⟩ => ⟨S4x4, .i32⟩
  | .hbm, ⟨111, _⟩ => ⟨S4x4, .i32⟩
  | .hbm, ⟨112, _⟩ => ⟨S4x4, .i1⟩
  | .hbm, ⟨113, _⟩ => ⟨S4x4, .f32⟩
  | .hbm, ⟨114, _⟩ => ⟨S4x1x4x1, .f32⟩
  | .hbm, ⟨115, _⟩ => ⟨S10x14, .f32⟩
  | .hbm, ⟨116, _⟩ => ⟨S1x10x1x14, .f32⟩
  | .hbm, ⟨117, _⟩ => ⟨S4x10x4x14, .f32⟩
  | .hbm, ⟨118, _⟩ => ⟨S4x10x4x14, .f32⟩
  | .hbm, ⟨119, _⟩ => ⟨S4x10x4x14, .f32⟩
  | .hbm, ⟨120, _⟩ => ⟨S40x56, .f32⟩
  | .hbm, ⟨121, _⟩ => ⟨S_, .f32⟩
  | .hbm, ⟨122, _⟩ => ⟨S40x56, .f32⟩
  | .hbm, ⟨123, _⟩ => ⟨S40x224, .f32⟩
  | .hbm, ⟨124, _⟩ => ⟨S40x224, .f32⟩
  | .hbm, ⟨125, _⟩ => ⟨S80x224, .f32⟩
  | .hbm, ⟨126, _⟩ => ⟨S80x224, .bf16⟩
  | .hbm, ⟨127, _⟩ => ⟨S2x768x1600, .bf16⟩
  | .local _ .vmem, ⟨0, _⟩ => ⟨S1x18x256x160, .fp8e4m3⟩
  | .local _ .vmem, ⟨1, _⟩ => ⟨S1x18x256x160, .fp8e4m3⟩
  | .local _ .vmem, ⟨2, _⟩ => ⟨S1x18x768x160, .fp8e4m3⟩
  | .local _ .vmem, ⟨3, _⟩ => ⟨S1x18x768x160, .fp8e4m3⟩
  | .local _ .vmem, ⟨4, _⟩ => ⟨S1x10x768x160, .fp8e4m3⟩
  | .local _ .vmem, ⟨5, _⟩ => ⟨S1x10x768x160, .fp8e4m3⟩
  | .local _ .vmem, ⟨6, _⟩ => ⟨S1x256x18, .f32⟩
  | .local _ .vmem, ⟨7, _⟩ => ⟨S1x256x18, .f32⟩
  | .local _ .vmem, ⟨8, _⟩ => ⟨S1x18x768, .f32⟩
  | .local _ .vmem, ⟨9, _⟩ => ⟨S1x18x768, .f32⟩
  | .local _ .vmem, ⟨10, _⟩ => ⟨S1x40x768, .f32⟩
  | .local _ .vmem, ⟨11, _⟩ => ⟨S1x40x768, .f32⟩
  | .local _ .vmem, ⟨12, _⟩ => ⟨S168x216, .bf16⟩
  | .local _ .vmem, ⟨13, _⟩ => ⟨S80x224, .bf16⟩
  | .local _ .vmem, ⟨14, _⟩ => ⟨S1x256x1600, .bf16⟩
  | .local _ .vmem, ⟨15, _⟩ => ⟨S1x256x1600, .bf16⟩
  | .local _ .vmem, ⟨16, _⟩ => ⟨S6x4608x128, .f32⟩
  | .local _ .vmem, ⟨17, _⟩ => ⟨S6x2560x128, .f32⟩
  | .local _ .vmem, ⟨18, _⟩ => ⟨S56x768, .f32⟩
  | .local _ .vmem, ⟨19, _⟩ => ⟨S56x768, .f32⟩
  | _, _ => ⟨S2x768x18x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_1 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_c_2 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_c_3 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_c_4 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_cst_5 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨2, ![2, 3], ![false, false]⟩

def k0_mult1 : BitVec 32 :=
  let c0_i32 : BitVec 32 := 0#32
  c0_i32
@[reducible] def k0_t1_loop : Scf.Loop 32 :=
  let c0_i32_623 : BitVec 32 := 0#32
  let c31_i32 : BitVec 32 := 31#32
  let v799 : BitVec 32 := Scalar.addi c0_i32_623 c31_i32
  let c1_i32 : BitVec 32 := 1#32
  ⟨c0_i32_623, v799, c1_i32⟩
def k0_mult2 (k0_t1 : Fin k0_t1_loop.trips) : BitVec 32 :=
  let c2_i32 : BitVec 32 := 2#32
  let c0_i32_623 : BitVec 32 := 0#32
  let c1_i32 : BitVec 32 := 1#32
  let arg15 : BitVec 32 := Scf.iv c0_i32_623 c1_i32 k0_t1
  let v1347 : BitVec 32 := Scalar.muli c2_i32 arg15
  let c1_i32_991 : BitVec 32 := 1#32
  let v1348 : BitVec 32 := Scalar.addi v1347 c1_i32_991
  let c72_i32 : BitVec 32 := 72#32
  let v1349 : BitVec 32 := Scalar.muli v1348 c72_i32
  v1349
def k0_off1 (k0_t1 : Fin k0_t1_loop.trips) (c1_i32_991 : BitVec 32) : Fin 3 → Nat :=
  let c0_992 : Index := 0#32
  let c2_i32 : BitVec 32 := 2#32
  let c0_i32_623 : BitVec 32 := 0#32
  let c1_i32 : BitVec 32 := 1#32
  let arg15 : BitVec 32 := Scf.iv c0_i32_623 c1_i32 k0_t1
  let v1347 : BitVec 32 := Scalar.muli c2_i32 arg15
  let v1348 : BitVec 32 := Scalar.addi v1347 c1_i32_991
  let c72_i32 : BitVec 32 := 72#32
  let v1349 : BitVec 32 := Scalar.muli v1348 c72_i32
  let v1350 : BitVec 32 := v1349
  let v1351 : Index := Scalar.indexCast v1350
  let c0_993 : Index := 0#32
  ![0, v1351.toNat, 0]
def k0_off2 (k0_t1 : Fin k0_t1_loop.trips) (c1_i32_991 : BitVec 32) : Fin 3 → Nat :=
  let c1_994 : Index := 1#32
  let c2_i32 : BitVec 32 := 2#32
  let c0_i32_623 : BitVec 32 := 0#32
  let c1_i32 : BitVec 32 := 1#32
  let arg15 : BitVec 32 := Scf.iv c0_i32_623 c1_i32 k0_t1
  let v1347 : BitVec 32 := Scalar.muli c2_i32 arg15
  let v1348 : BitVec 32 := Scalar.addi v1347 c1_i32_991
  let c72_i32 : BitVec 32 := 72#32
  let v1349 : BitVec 32 := Scalar.muli v1348 c72_i32
  let v1350 : BitVec 32 := v1349
  let v1354 : Index := Scalar.indexCast v1350
  let c0_995 : Index := 0#32
  ![1, v1354.toNat, 0]
def k0_off3 (k0_t1 : Fin k0_t1_loop.trips) (c1_i32_991 : BitVec 32) : Fin 3 → Nat :=
  let c2_1003 : Index := 2#32
  let c2_i32 : BitVec 32 := 2#32
  let c0_i32_623 : BitVec 32 := 0#32
  let c1_i32 : BitVec 32 := 1#32
  let arg15 : BitVec 32 := Scf.iv c0_i32_623 c1_i32 k0_t1
  let v1347 : BitVec 32 := Scalar.muli c2_i32 arg15
  let v1348 : BitVec 32 := Scalar.addi v1347 c1_i32_991
  let c72_i32 : BitVec 32 := 72#32
  let v1349 : BitVec 32 := Scalar.muli v1348 c72_i32
  let v1350 : BitVec 32 := v1349
  let v1383 : Index := Scalar.indexCast v1350
  let c0_1004 : Index := 0#32
  ![2, v1383.toNat, 0]
def k0_off4 (k0_t1 : Fin k0_t1_loop.trips) (c1_i32_991 : BitVec 32) : Fin 3 → Nat :=
  let c3_1005 : Index := 3#32
  let c2_i32 : BitVec 32 := 2#32
  let c0_i32_623 : BitVec 32 := 0#32
  let c1_i32 : BitVec 32 := 1#32
  let arg15 : BitVec 32 := Scf.iv c0_i32_623 c1_i32 k0_t1
  let v1347 : BitVec 32 := Scalar.muli c2_i32 arg15
  let v1348 : BitVec 32 := Scalar.addi v1347 c1_i32_991
  let c72_i32 : BitVec 32 := 72#32
  let v1349 : BitVec 32 := Scalar.muli v1348 c72_i32
  let v1350 : BitVec 32 := v1349
  let v1386 : Index := Scalar.indexCast v1350
  let c0_1006 : Index := 0#32
  ![3, v1386.toNat, 0]
def k0_off5 (k0_t1 : Fin k0_t1_loop.trips) (c1_i32_991 : BitVec 32) : Fin 3 → Nat :=
  let c4_1014 : Index := 4#32
  let c2_i32 : BitVec 32 := 2#32
  let c0_i32_623 : BitVec 32 := 0#32
  let c1_i32 : BitVec 32 := 1#32
  let arg15 : BitVec 32 := Scf.iv c0_i32_623 c1_i32 k0_t1
  let v1347 : BitVec 32 := Scalar.muli c2_i32 arg15
  let v1348 : BitVec 32 := Scalar.addi v1347 c1_i32_991
  let c72_i32 : BitVec 32 := 72#32
  let v1349 : BitVec 32 := Scalar.muli v1348 c72_i32
  let v1350 : BitVec 32 := v1349
  let v1415 : Index := Scalar.indexCast v1350
  let c0_1015 : Index := 0#32
  ![4, v1415.toNat, 0]
def k0_off6 (k0_t1 : Fin k0_t1_loop.trips) (c1_i32_991 : BitVec 32) : Fin 3 → Nat :=
  let c5_1016 : Index := 5#32
  let c2_i32 : BitVec 32 := 2#32
  let c0_i32_623 : BitVec 32 := 0#32
  let c1_i32 : BitVec 32 := 1#32
  let arg15 : BitVec 32 := Scf.iv c0_i32_623 c1_i32 k0_t1
  let v1347 : BitVec 32 := Scalar.muli c2_i32 arg15
  let v1348 : BitVec 32 := Scalar.addi v1347 c1_i32_991
  let c72_i32 : BitVec 32 := 72#32
  let v1349 : BitVec 32 := Scalar.muli v1348 c72_i32
  let v1350 : BitVec 32 := v1349
  let v1418 : Index := Scalar.indexCast v1350
  let c0_1017 : Index := 0#32
  ![5, v1418.toNat, 0]
def k0_mult3 (k0_t1 : Fin k0_t1_loop.trips) : BitVec 32 :=
  let c2_i32_1025 : BitVec 32 := 2#32
  let c0_i32_623 : BitVec 32 := 0#32
  let c1_i32 : BitVec 32 := 1#32
  let arg15 : BitVec 32 := Scf.iv c0_i32_623 c1_i32 k0_t1
  let v1447 : BitVec 32 := Scalar.muli c2_i32_1025 arg15
  let c40_i32 : BitVec 32 := 40#32
  let v1448 : BitVec 32 := Scalar.muli v1447 c40_i32
  v1448
def k0_off7 (k0_t1 : Fin k0_t1_loop.trips) : Fin 3 → Nat :=
  let c0_1039 : Index := 0#32
  let c2_i32_1025 : BitVec 32 := 2#32
  let c0_i32_623 : BitVec 32 := 0#32
  let c1_i32 : BitVec 32 := 1#32
  let arg15 : BitVec 32 := Scf.iv c0_i32_623 c1_i32 k0_t1
  let v1447 : BitVec 32 := Scalar.muli c2_i32_1025 arg15
  let c40_i32 : BitVec 32 := 40#32
  let v1448 : BitVec 32 := Scalar.muli v1447 c40_i32
  let v1449 : BitVec 32 := v1448
  let v1487 : Index := Scalar.indexCast v1449
  let c0_1040 : Index := 0#32
  ![0, v1487.toNat, 0]
def k0_off8 (k0_t1 : Fin k0_t1_loop.trips) : Fin 3 → Nat :=
  let c1_1041 : Index := 1#32
  let c2_i32_1025 : BitVec 32 := 2#32
  let c0_i32_623 : BitVec 32 := 0#32
  let c1_i32 : BitVec 32 := 1#32
  let arg15 : BitVec 32 := Scf.iv c0_i32_623 c1_i32 k0_t1
  let v1447 : BitVec 32 := Scalar.muli c2_i32_1025 arg15
  let c40_i32 : BitVec 32 := 40#32
  let v1448 : BitVec 32 := Scalar.muli v1447 c40_i32
  let v1449 : BitVec 32 := v1448
  let v1492 : Index := Scalar.indexCast v1449
  let c0_1042 : Index := 0#32
  ![1, v1492.toNat, 0]
def k0_off9 (k0_t1 : Fin k0_t1_loop.trips) : Fin 3 → Nat :=
  let c2_1051 : Index := 2#32
  let c2_i32_1025 : BitVec 32 := 2#32
  let c0_i32_623 : BitVec 32 := 0#32
  let c1_i32 : BitVec 32 := 1#32
  let arg15 : BitVec 32 := Scf.iv c0_i32_623 c1_i32 k0_t1
  let v1447 : BitVec 32 := Scalar.muli c2_i32_1025 arg15
  let c40_i32 : BitVec 32 := 40#32
  let v1448 : BitVec 32 := Scalar.muli v1447 c40_i32
  let v1449 : BitVec 32 := v1448
  let v1521 : Index := Scalar.indexCast v1449
  let c0_1052 : Index := 0#32
  ![2, v1521.toNat, 0]
def k0_off10 (k0_t1 : Fin k0_t1_loop.trips) : Fin 3 → Nat :=
  let c3_1053 : Index := 3#32
  let c2_i32_1025 : BitVec 32 := 2#32
  let c0_i32_623 : BitVec 32 := 0#32
  let c1_i32 : BitVec 32 := 1#32
  let arg15 : BitVec 32 := Scf.iv c0_i32_623 c1_i32 k0_t1
  let v1447 : BitVec 32 := Scalar.muli c2_i32_1025 arg15
  let c40_i32 : BitVec 32 := 40#32
  let v1448 : BitVec 32 := Scalar.muli v1447 c40_i32
  let v1449 : BitVec 32 := v1448
  let v1526 : Index := Scalar.indexCast v1449
  let c0_1054 : Index := 0#32
  ![3, v1526.toNat, 0]
def k0_off11 (k0_t1 : Fin k0_t1_loop.trips) : Fin 3 → Nat :=
  let c4_1063 : Index := 4#32
  let c2_i32_1025 : BitVec 32 := 2#32
  let c0_i32_623 : BitVec 32 := 0#32
  let c1_i32 : BitVec 32 := 1#32
  let arg15 : BitVec 32 := Scf.iv c0_i32_623 c1_i32 k0_t1
  let v1447 : BitVec 32 := Scalar.muli c2_i32_1025 arg15
  let c40_i32 : BitVec 32 := 40#32
  let v1448 : BitVec 32 := Scalar.muli v1447 c40_i32
  let v1449 : BitVec 32 := v1448
  let v1555 : Index := Scalar.indexCast v1449
  let c0_1064 : Index := 0#32
  ![4, v1555.toNat, 0]
def k0_off12 (k0_t1 : Fin k0_t1_loop.trips) : Fin 3 → Nat :=
  let c5_1065 : Index := 5#32
  let c2_i32_1025 : BitVec 32 := 2#32
  let c0_i32_623 : BitVec 32 := 0#32
  let c1_i32 : BitVec 32 := 1#32
  let arg15 : BitVec 32 := Scf.iv c0_i32_623 c1_i32 k0_t1
  let v1447 : BitVec 32 := Scalar.muli c2_i32_1025 arg15
  let c40_i32 : BitVec 32 := 40#32
  let v1448 : BitVec 32 := Scalar.muli v1447 c40_i32
  let v1449 : BitVec 32 := v1448
  let v1560 : Index := Scalar.indexCast v1449
  let c0_1066 : Index := 0#32
  ![5, v1560.toNat, 0]
def k0_mult4 (k0_t1 : Fin k0_t1_loop.trips) : BitVec 32 :=
  let c2_i32_1067 : BitVec 32 := 2#32
  let c0_i32_623 : BitVec 32 := 0#32
  let c1_i32 : BitVec 32 := 1#32
  let arg15 : BitVec 32 := Scf.iv c0_i32_623 c1_i32 k0_t1
  let v1564 : BitVec 32 := Scalar.muli c2_i32_1067 arg15
  let c2_i32_1068 : BitVec 32 := 2#32
  let v1565 : BitVec 32 := Scalar.addi v1564 c2_i32_1068
  let c72_i32_1069 : BitVec 32 := 72#32
  let v1566 : BitVec 32 := Scalar.muli v1565 c72_i32_1069
  v1566
def k0_mult5 (k0_t1 : Fin k0_t1_loop.trips) : BitVec 32 :=
  let c2_i32_1103 : BitVec 32 := 2#32
  let c0_i32_623 : BitVec 32 := 0#32
  let c1_i32 : BitVec 32 := 1#32
  let arg15 : BitVec 32 := Scf.iv c0_i32_623 c1_i32 k0_t1
  let v1664 : BitVec 32 := Scalar.muli c2_i32_1103 arg15
  let c1_i32_1104 : BitVec 32 := 1#32
  let v1665 : BitVec 32 := Scalar.addi v1664 c1_i32_1104
  let c40_i32_1105 : BitVec 32 := 40#32
  let v1666 : BitVec 32 := Scalar.muli v1665 c40_i32_1105
  v1666
def k0_off13 (k0_t1 : Fin k0_t1_loop.trips) : Fin 3 → Nat :=
  let c0_1119 : Index := 0#32
  let c2_i32_1103 : BitVec 32 := 2#32
  let c0_i32_623 : BitVec 32 := 0#32
  let c1_i32 : BitVec 32 := 1#32
  let arg15 : BitVec 32 := Scf.iv c0_i32_623 c1_i32 k0_t1
  let v1664 : BitVec 32 := Scalar.muli c2_i32_1103 arg15
  let c1_i32_1104 : BitVec 32 := 1#32
  let v1665 : BitVec 32 := Scalar.addi v1664 c1_i32_1104
  let c40_i32_1105 : BitVec 32 := 40#32
  let v1666 : BitVec 32 := Scalar.muli v1665 c40_i32_1105
  let v1667 : BitVec 32 := v1666
  let v1705 : Index := Scalar.indexCast v1667
  let c0_1120 : Index := 0#32
  ![0, v1705.toNat, 0]
def k0_off14 (k0_t1 : Fin k0_t1_loop.trips) : Fin 3 → Nat :=
  let c1_1121 : Index := 1#32
  let c2_i32_1103 : BitVec 32 := 2#32
  let c0_i32_623 : BitVec 32 := 0#32
  let c1_i32 : BitVec 32 := 1#32
  let arg15 : BitVec 32 := Scf.iv c0_i32_623 c1_i32 k0_t1
  let v1664 : BitVec 32 := Scalar.muli c2_i32_1103 arg15
  let c1_i32_1104 : BitVec 32 := 1#32
  let v1665 : BitVec 32 := Scalar.addi v1664 c1_i32_1104
  let c40_i32_1105 : BitVec 32 := 40#32
  let v1666 : BitVec 32 := Scalar.muli v1665 c40_i32_1105
  let v1667 : BitVec 32 := v1666
  let v1710 : Index := Scalar.indexCast v1667
  let c0_1122 : Index := 0#32
  ![1, v1710.toNat, 0]
def k0_off15 (k0_t1 : Fin k0_t1_loop.trips) : Fin 3 → Nat :=
  let c2_1131 : Index := 2#32
  let c2_i32_1103 : BitVec 32 := 2#32
  let c0_i32_623 : BitVec 32 := 0#32
  let c1_i32 : BitVec 32 := 1#32
  let arg15 : BitVec 32 := Scf.iv c0_i32_623 c1_i32 k0_t1
  let v1664 : BitVec 32 := Scalar.muli c2_i32_1103 arg15
  let c1_i32_1104 : BitVec 32 := 1#32
  let v1665 : BitVec 32 := Scalar.addi v1664 c1_i32_1104
  let c40_i32_1105 : BitVec 32 := 40#32
  let v1666 : BitVec 32 := Scalar.muli v1665 c40_i32_1105
  let v1667 : BitVec 32 := v1666
  let v1739 : Index := Scalar.indexCast v1667
  let c0_1132 : Index := 0#32
  ![2, v1739.toNat, 0]
def k0_off16 (k0_t1 : Fin k0_t1_loop.trips) : Fin 3 → Nat :=
  let c3_1133 : Index := 3#32
  let c2_i32_1103 : BitVec 32 := 2#32
  let c0_i32_623 : BitVec 32 := 0#32
  let c1_i32 : BitVec 32 := 1#32
  let arg15 : BitVec 32 := Scf.iv c0_i32_623 c1_i32 k0_t1
  let v1664 : BitVec 32 := Scalar.muli c2_i32_1103 arg15
  let c1_i32_1104 : BitVec 32 := 1#32
  let v1665 : BitVec 32 := Scalar.addi v1664 c1_i32_1104
  let c40_i32_1105 : BitVec 32 := 40#32
  let v1666 : BitVec 32 := Scalar.muli v1665 c40_i32_1105
  let v1667 : BitVec 32 := v1666
  let v1744 : Index := Scalar.indexCast v1667
  let c0_1134 : Index := 0#32
  ![3, v1744.toNat, 0]
def k0_off17 (k0_t1 : Fin k0_t1_loop.trips) : Fin 3 → Nat :=
  let c4_1143 : Index := 4#32
  let c2_i32_1103 : BitVec 32 := 2#32
  let c0_i32_623 : BitVec 32 := 0#32
  let c1_i32 : BitVec 32 := 1#32
  let arg15 : BitVec 32 := Scf.iv c0_i32_623 c1_i32 k0_t1
  let v1664 : BitVec 32 := Scalar.muli c2_i32_1103 arg15
  let c1_i32_1104 : BitVec 32 := 1#32
  let v1665 : BitVec 32 := Scalar.addi v1664 c1_i32_1104
  let c40_i32_1105 : BitVec 32 := 40#32
  let v1666 : BitVec 32 := Scalar.muli v1665 c40_i32_1105
  let v1667 : BitVec 32 := v1666
  let v1773 : Index := Scalar.indexCast v1667
  let c0_1144 : Index := 0#32
  ![4, v1773.toNat, 0]
def k0_off18 (k0_t1 : Fin k0_t1_loop.trips) : Fin 3 → Nat :=
  let c5_1145 : Index := 5#32
  let c2_i32_1103 : BitVec 32 := 2#32
  let c0_i32_623 : BitVec 32 := 0#32
  let c1_i32 : BitVec 32 := 1#32
  let arg15 : BitVec 32 := Scf.iv c0_i32_623 c1_i32 k0_t1
  let v1664 : BitVec 32 := Scalar.muli c2_i32_1103 arg15
  let c1_i32_1104 : BitVec 32 := 1#32
  let v1665 : BitVec 32 := Scalar.addi v1664 c1_i32_1104
  let c40_i32_1105 : BitVec 32 := 40#32
  let v1666 : BitVec 32 := Scalar.muli v1665 c40_i32_1105
  let v1667 : BitVec 32 := v1666
  let v1778 : Index := Scalar.indexCast v1667
  let c0_1146 : Index := 0#32
  ![5, v1778.toNat, 0]
def k0_mult6 : BitVec 32 :=
  let c4536_i32 : BitVec 32 := 4536#32
  c4536_i32
def k0_mult7 : BitVec 32 :=
  let c2480_i32 : BitVec 32 := 2480#32
  c2480_i32
def k0_mult8 : BitVec 32 :=
  let c2520_i32 : BitVec 32 := 2520#32
  c2520_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x18x256x160 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x18x768x160 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10x768x160 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x18 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x18x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x40x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S168x216 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S80x224 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1600 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e_over_sqrt_d" => some (((Real.sqrt 160)⁻¹ * (Real.log 2)⁻¹ : ℝ) : EReal)
  | _ => none
-- ==== ReferenceIdeal.lean ====
abbrev S2x768x18x160 : Shape := ⟨4, ![2, 768, 18, 160]⟩
abbrev S2x768x18 : Shape := ⟨3, ![2, 768, 18]⟩
abbrev S2x768x10x160 : Shape := ⟨4, ![2, 768, 10, 160]⟩
abbrev S2x768x10 : Shape := ⟨3, ![2, 768, 10]⟩
abbrev S18x14 : Shape := ⟨2, ![18, 14]⟩
abbrev S14x10 : Shape := ⟨2, ![14, 10]⟩
abbrev S2x18x768 : Shape := ⟨3, ![2, 18, 768]⟩
abbrev S2x10x768 : Shape := ⟨3, ![2, 10, 768]⟩
abbrev S2x18x768x768 : Shape := ⟨4, ![2, 18, 768, 768]⟩
abbrev S2x18x768x1 : Shape := ⟨4, ![2, 18, 768, 1]⟩
abbrev S2x18x1x768 : Shape := ⟨4, ![2, 18, 1, 768]⟩
abbrev S_ : Shape := ⟨0, ![]⟩
abbrev S14x2x768x768 : Shape := ⟨4, ![14, 2, 768, 768]⟩
abbrev S2x14x768x768 : Shape := ⟨4, ![2, 14, 768, 768]⟩
abbrev S2x14x768 : Shape := ⟨3, ![2, 14, 768]⟩
abbrev S2x14x768x1 : Shape := ⟨4, ![2, 14, 768, 1]⟩
abbrev S10x2x768x768 : Shape := ⟨4, ![10, 2, 768, 768]⟩
abbrev S2x10x768x768 : Shape := ⟨4, ![2, 10, 768, 768]⟩
abbrev S2x10x1x768 : Shape := ⟨4, ![2, 10, 1, 768]⟩
abbrev S2x10x160x768 : Shape := ⟨4, ![2, 10, 160, 768]⟩
abbrev S2x768x1600 : Shape := ⟨3, ![2, 768, 1600]⟩

abbrev nBuf : Space → Nat
  | .hbm => 55
  | .vmem => 6
  | .smem => 0
  | _ => 0

abbrev bufTy : (tb : Table) → Fin (tcTables nBuf tb) → BufTy
  | .hbm, ⟨0, _⟩ => ⟨S2x768x18x160, .f32⟩
  | .hbm, ⟨1, _⟩ => ⟨S2x768x18, .f32⟩
  | .hbm, ⟨2, _⟩ => ⟨S2x768x18x160, .f32⟩
  | .hbm, ⟨3, _⟩ => ⟨S2x768x18, .f32⟩
  | .hbm, ⟨4, _⟩ => ⟨S2x768x10x160, .fp8e4m3⟩
  | .hbm, ⟨5, _⟩ => ⟨S2x768x10, .f32⟩
  | .hbm, ⟨6, _⟩ => ⟨S18x14, .f32⟩
  | .hbm, ⟨7, _⟩ => ⟨S14x10, .f32⟩
  | .hbm, ⟨8, _⟩ => ⟨S2x768x18x160, .fp8e4m3⟩
  | .hbm, ⟨9, _⟩ => ⟨S2x768x18x160, .fp8e4m3⟩
  | .hbm, ⟨10, _⟩ => ⟨S2x768x18x160, .f32⟩
  | .hbm, ⟨11, _⟩ => ⟨S2x768x18x160, .f32⟩
  | .hbm, ⟨12, _⟩ => ⟨S2x768x10x160, .bf16⟩
  | .hbm, ⟨13, _⟩ => ⟨S2x18x768, .f32⟩
  | .hbm, ⟨14, _⟩ => ⟨S2x18x768, .f32⟩
  | .hbm, ⟨15, _⟩ => ⟨S2x10x768, .f32⟩
  | .hbm, ⟨16, _⟩ => ⟨S2x18x768x768, .f32⟩
  | .hbm, ⟨17, _⟩ => ⟨S2x18x768x1, .f32⟩
  | .hbm, ⟨18, _⟩ => ⟨S2x18x768x768, .f32⟩
  | .hbm, ⟨19, _⟩ => ⟨S2x18x768x768, .f32⟩
  | .hbm, ⟨20, _⟩ => ⟨S2x18x1x768, .f32⟩
  | .hbm, ⟨21, _⟩ => ⟨S2x18x768x768, .f32⟩
  | .hbm, ⟨22, _⟩ => ⟨S2x18x768x768, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x18x768x768, .f32⟩
  | .hbm, ⟨28, _⟩ => ⟨S2x18x768x768, .f32⟩
  | .hbm, ⟨29, _⟩ => ⟨S14x2x768x768, .f32⟩
  | .hbm, ⟨30, _⟩ => ⟨S2x14x768x768, .f32⟩
  | .hbm, ⟨31, _⟩ => ⟨S_, .f32⟩
  | .hbm, ⟨32, _⟩ => ⟨S2x14x768, .f32⟩
  | .hbm, ⟨33, _⟩ => ⟨S_, .f32⟩
  | .hbm, ⟨34, _⟩ => ⟨S2x14x768, .f32⟩
  | .hbm, ⟨35, _⟩ => ⟨S2x14x768, .f32⟩
  | .hbm, ⟨36, _⟩ => ⟨S2x14x768x1, .f32⟩
  | .hbm, ⟨37, _⟩ => ⟨S2x14x768x768, .f32⟩
  | .hbm, ⟨38, _⟩ => ⟨S2x14x768x768, .f32⟩
  | .hbm, ⟨39, _⟩ => ⟨S2x14x768x768, .f32⟩
  | .hbm, ⟨40, _⟩ => ⟨S_, .f32⟩
  | .hbm, ⟨41, _⟩ => ⟨S2x14x768, .f32⟩
  | .hbm, ⟨42, _⟩ => ⟨S2x14x768x1, .f32⟩
  | .hbm, ⟨43, _⟩ => ⟨S2x14x768x768, .f32⟩
  | .hbm, ⟨44, _⟩ => ⟨S2x14x768x768, .f32⟩
  | .hbm, ⟨45, _⟩ => ⟨S10x2x768x768, .f32⟩
  | .hbm, ⟨46, _⟩ => ⟨S2x10x768x768, .f32⟩
  | .hbm, ⟨47, _⟩ => ⟨S2x10x1x768, .f32⟩
  | .hbm, ⟨48, _⟩ => ⟨S2x10x768x768, .f32⟩
  | .hbm, ⟨49, _⟩ => ⟨S2x10x768x768, .f32⟩
  | .hbm, ⟨50, _⟩ => ⟨S2x10x768x768, .bf16⟩
  | .hbm, ⟨51, _⟩ => ⟨S2x10x160x768, .f32⟩
  | .hbm, ⟨52, _⟩ => ⟨S2x768x10x160, .f32⟩
  | .hbm, ⟨53, _⟩ => ⟨S2x768x1600, .f32⟩
  | .hbm, ⟨54, _⟩ => ⟨S2x768x1600, .bf16⟩
  | .local _ .vmem, ⟨0, _⟩ => ⟨S2x768x18x160, .fp8e4m3⟩
  | .local _ .vmem, ⟨1, _⟩ => ⟨S2x768x18x160, .fp8e4m3⟩
  | .local _ .vmem, ⟨2, _⟩ => ⟨S2x768x10x160, .fp8e4m3⟩
  | .local _ .vmem, ⟨3, _⟩ => ⟨S2x768x18x160, .f32⟩
  | .local _ .vmem, ⟨4, _⟩ => ⟨S2x768x18x160, .f32⟩
  | .local _ .vmem, ⟨5, _⟩ => ⟨S2x768x10x160, .bf16⟩
  | _, _ => ⟨S2x768x18x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x768x18x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x18x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x10x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x18x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x18x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x10x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.lean ====
/- The frame of `Kernel`: the kernel body runs from any contents of its staging buffers and scratch, returns its
   inputs as it found them and leaves its output block and its scratch at some contents. Nothing of the output is
   named here. -/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs: the inputs are handed back as they were, the output block and the four scratch
    buffers at some contents. -/
theorem run (c : Dev nD) (i : grid0.Coords) (arg2 : Memref sig .tc .vmem S1x18x256x160 .fp8e4m3) (harg2 : arg2.IsWhole) (arg3 : Memref sig .tc .vmem S1x18x768x160 .fp8e4m3) (harg3 : arg3.IsWhole) (arg4 : Memref sig .tc .vmem S1x10x768x160 .fp8e4m3) (harg4 : arg4.IsWhole) (arg5 : Memref sig .tc .vmem S1x256x18 .f32) (harg5 : arg5.IsWhole) (arg6 : Memref sig .tc .vmem S1x18x768 .f32) (harg6 : arg6.IsWhole) (arg7 : Memref sig .tc .vmem S1x40x768 .f32) (harg7 : arg7.IsWhole) (arg8 : Memref sig .tc .vmem S168x216 .bf16) (harg8 : arg8.IsWhole) (arg9 : Memref sig .tc .vmem S80x224 .bf16) (harg9 : arg9.IsWhole) (arg10 : Memref sig .tc .vmem S1x256x1600 .bf16) (harg10 : arg10.IsWhole) (arg11 : Memref sig .tc .vmem S6x4608x128 .f32) (harg11 : arg11.IsWhole) (arg12 : Memref sig .tc .vmem S6x2560x128 .f32) (harg12 : arg12.IsWhole) (arg13 : Memref sig .tc .vmem S56x768 .f32) (harg13 : arg13.IsWhole) (arg14 : Memref sig .tc .vmem S56x768 .f32) (harg14 : arg14.IsWhole)
    (x0 : Vec F S1x18x256x160 .fp8e4m3) (x1 : Vec F S1x18x768x160 .fp8e4m3) (x2 : Vec F S1x10x768x160 .fp8e4m3) (x3 : Vec F S1x256x18 .f32) (x4 : Vec F S1x18x768 .f32) (x5 : Vec F S1x40x768 .f32) (x6 : Vec F S168x216 .bf16) (x7 : Vec F S80x224 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_talking_heads i arg2 harg2 arg3 harg3 arg4 harg4 arg5 harg5 arg6 harg6 arg7 harg7 arg8 harg8 arg9 harg9 arg10 harg10 arg11 harg11 arg12 harg12 arg13 harg13 arg14 harg14) K := by
    intro E K
    simp only [cc0_talking_heads_eq_skeleton]; unfold cc0_talking_heads_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

/-- Each window's staging memref at a point. -/
abbrev ms0 (t : Fin cfg0.N) : Memref sig .tc .vmem S1x18x256x160 .fp8e4m3 := win0_0.stage (cfg0.slots t 0)
abbrev ms1 (t : Fin cfg0.N) : Memref sig .tc .vmem S1x18x768x160 .fp8e4m3 := win0_1.stage (cfg0.slots t 1)
abbrev ms2 (t : Fin cfg0.N) : Memref sig .tc .vmem S1x10x768x160 .fp8e4m3 := win0_2.stage (cfg0.slots t 2)
abbrev ms3 (t : Fin cfg0.N) : Memref sig .tc .vmem S1x256x18 .f32 := win0_3.stage (cfg0.slots t 3)
abbrev ms4 (t : Fin cfg0.N) : Memref sig .tc .vmem S1x18x768 .f32 := win0_4.stage (cfg0.slots t 4)
abbrev ms5 (t : Fin cfg0.N) : Memref sig .tc .vmem S1x40x768 .f32 := win0_5.stage (cfg0.slots t 5)
abbrev ms6 (t : Fin cfg0.N) : Memref sig .tc .vmem S168x216 .bf16 := win0_6.stage (cfg0.slots t 6)
abbrev ms7 (t : Fin cfg0.N) : Memref sig .tc .vmem S80x224 .bf16 := win0_7.stage (cfg0.slots t 7)
abbrev ms8 (t : Fin cfg0.N) : Memref sig .tc .vmem S1x256x1600 .bf16 := win0_8.stage (cfg0.slots t 8)
/-- The scratch buffers. -/
abbrev sc0 : Memref sig .tc .vmem S6x4608x128 .f32 := Memref.whole cc0_scratch0
abbrev sc1 : Memref sig .tc .vmem S6x2560x128 .f32 := Memref.whole cc0_scratch1
abbrev sc2 : Memref sig .tc .vmem S56x768 .f32 := Memref.whole cc0_scratch2
abbrev sc3 : Memref sig .tc .vmem S56x768 .f32 := Memref.whole cc0_scratch3

/-- The invariant between points: the scratch buffers at some contents and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The output window, of whose contents nothing is said. -/
def forgets : Fin 9 → Bool := fun w => w.val == 8

/-- The proof data: arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, PhiA_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every input array of the region unchanged, every counter at zero. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 2000000 in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((A_eq m c 3).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    ((θ_run defs _ _).mono (fun _ h => h.1) (run_main_quiescent m ρ))

/-- The frame claim at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Body

end
-- ==== Proof.KernelIdealFrame.lean ====
/- The frame of `KernelIdeal`: the kernel body runs from any contents of its staging buffers and scratch, returns its
   inputs as it found them and leaves its output block and its scratch at some contents. Nothing of the output is
   named here. -/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs: the inputs are handed back as they were, the output block and the four scratch
    buffers at some contents. -/
theorem run (c : Dev nD) (i : grid0.Coords) (arg2 : Memref sig .tc .vmem S1x18x256x160 .fp8e4m3) (harg2 : arg2.IsWhole) (arg3 : Memref sig .tc .vmem S1x18x768x160 .fp8e4m3) (harg3 : arg3.IsWhole) (arg4 : Memref sig .tc .vmem S1x10x768x160 .fp8e4m3) (harg4 : arg4.IsWhole) (arg5 : Memref sig .tc .vmem S1x256x18 .f32) (harg5 : arg5.IsWhole) (arg6 : Memref sig .tc .vmem S1x18x768 .f32) (harg6 : arg6.IsWhole) (arg7 : Memref sig .tc .vmem S1x40x768 .f32) (harg7 : arg7.IsWhole) (arg8 : Memref sig .tc .vmem S168x216 .bf16) (harg8 : arg8.IsWhole) (arg9 : Memref sig .tc .vmem S80x224 .bf16) (harg9 : arg9.IsWhole) (arg10 : Memref sig .tc .vmem S1x256x1600 .bf16) (harg10 : arg10.IsWhole) (arg11 : Memref sig .tc .vmem S6x4608x128 .f32) (harg11 : arg11.IsWhole) (arg12 : Memref sig .tc .vmem S6x2560x128 .f32) (harg12 : arg12.IsWhole) (arg13 : Memref sig .tc .vmem S56x768 .f32) (harg13 : arg13.IsWhole) (arg14 : Memref sig .tc .vmem S56x768 .f32) (harg14 : arg14.IsWhole)
    (x0 : Vec F S1x18x256x160 .fp8e4m3) (x1 : Vec F S1x18x768x160 .fp8e4m3) (x2 : Vec F S1x10x768x160 .fp8e4m3) (x3 : Vec F S1x256x18 .f32) (x4 : Vec F S1x18x768 .f32) (x5 : Vec F S1x40x768 .f32) (x6 : Vec F S168x216 .bf16) (x7 : Vec F S80x224 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_talking_heads i arg2 harg2 arg3 harg3 arg4 harg4 arg5 harg5 arg6 harg6 arg7 harg7 arg8 harg8 arg9 harg9 arg10 harg10 arg11 harg11 arg12 harg12 arg13 harg13 arg14 harg14) K := by
    intro E K
    simp only [cc0_talking_heads_eq_skeleton]; unfold cc0_talking_heads_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

/-- Each window's staging memref at a point. -/
abbrev ms0 (t : Fin cfg0.N) : Memref sig .tc .vmem S1x18x256x160 .fp8e4m3 := win0_0.stage (cfg0.slots t 0)
abbrev ms1 (t : Fin cfg0.N) : Memref sig .tc .vmem S1x18x768x160 .fp8e4m3 := win0_1.stage (cfg0.slots t 1)
abbrev ms2 (t : Fin cfg0.N) : Memref sig .tc .vmem S1x10x768x160 .fp8e4m3 := win0_2.stage (cfg0.slots t 2)
abbrev ms3 (t : Fin cfg0.N) : Memref sig .tc .vmem S1x256x18 .f32 := win0_3.stage (cfg0.slots t 3)
abbrev ms4 (t : Fin cfg0.N) : Memref sig .tc .vmem S1x18x768 .f32 := win0_4.stage (cfg0.slots t 4)
abbrev ms5 (t : Fin cfg0.N) : Memref sig .tc .vmem S1x40x768 .f32 := win0_5.stage (cfg0.slots t 5)
abbrev ms6 (t : Fin cfg0.N) : Memref sig .tc .vmem S168x216 .bf16 := win0_6.stage (cfg0.slots t 6)
abbrev ms7 (t : Fin cfg0.N) : Memref sig .tc .vmem S80x224 .bf16 := win0_7.stage (cfg0.slots t 7)
abbrev ms8 (t : Fin cfg0.N) : Memref sig .tc .vmem S1x256x1600 .bf16 := win0_8.stage (cfg0.slots t 8)
/-- The scratch buffers. -/
abbrev sc0 : Memref sig .tc .vmem S6x4608x128 .f32 := Memref.whole cc0_scratch0
abbrev sc1 : Memref sig .tc .vmem S6x2560x128 .f32 := Memref.whole cc0_scratch1
abbrev sc2 : Memref sig .tc .vmem S56x768 .f32 := Memref.whole cc0_scratch2
abbrev sc3 : Memref sig .tc .vmem S56x768 .f32 := Memref.whole cc0_scratch3

/-- The invariant between points: the scratch buffers at some contents and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The output window, of whose contents nothing is said. -/
def forgets : Fin 9 → Bool := fun w => w.val == 8

/-- The proof data: arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, PhiA_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every input array of the region unchanged, every counter at zero. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 2000000 in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((A_eq m c 3).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    ((θ_run defs _ _).mono (fun _ h => h.1) (run_main_quiescent m ρ))

/-- The frame claim at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Body

end
-- ==== Proof.Finite.lean ====
/- What the precondition says: every element of the six arrays it reads is a real number. -/
module

public import proofs.«01_k».proof.Pre_finite
public import Idealize.ShloMosaic.Lib.ReduceAll
public import Idealize.ShloMosaic.PureOps.Ideal
public import Idealize.ShloMosaic.PureOps.Ideal.Laws

@[expose] public section

noncomputable section

namespace Cert.Pre_finite

open Idealize.ShloMosaic

theorem facts : Facts where
  bcast_S_S2x768x18x160 := by decide
  reducesTo_S2x768x18x160_S_d0_1_2_3 := by decide
  h_S_ := by decide
  bcast_S_S2x768x18 := by decide
  reducesTo_S2x768x18_S_d0_1_2 := by decide
  bcast_S_S18x14 := by decide
  reducesTo_S18x14_S_d0_1 := by decide
  bcast_S_S14x10 := by decide
  reducesTo_S14x10_S_d0_1 := by decide

/-- One array's part: if all its elements are below infinity in magnitude, each is a real number. -/
theorem of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : ∃ r : ℝ, x i = (r : EReal) := by
  haveI : Subsingleton S_.Idx := ⟨fun a b => funext fun k => k.elim0⟩
  have h1 := Host.reduce_andi_all _ _ hr hu j h i
  have htop : Ideal.ofBits .f32 0x7F800000#32 = ⊤ := by simp [Ideal.ofBits, Ideal.ieee]
  change Ideal.cmp .olt (max (x i : EReal) (-(x i : EReal))) (Ideal.ofBits .f32 0x7F800000#32) = 1#1 at h1
  rw [htop] at h1
  have h2 : max (x i : EReal) (-(x i : EReal)) < ⊤ := by
    by_contra hn
    simp [Ideal.cmp, hn] at h1
  rw [max_lt_iff] at h2
  refine ⟨(x i : EReal).toReal, (EReal.coe_toReal h2.1.ne ?_).symm⟩
  intro hh
  rw [hh] at h2
  simp at h2

theorem and_one {a b : IVec S_ 1} {j : S_.Idx} (h : andi a b j = 1#1) : a j = 1#1 ∧ b j = 1#1 := IntOp.andi_eq_one.1 h

theorem reals [Facts] (x0 : FVec Ideal S2x768x18x160 .f32) (x1 : FVec Ideal S2x768x18 .f32) (x2 : FVec Ideal S2x768x18x160 .f32) (x3 : FVec Ideal S2x768x18 .f32)
    (x4 : FVec Ideal S2x768x10x160 .fp8e4m3) (x5 : FVec Ideal S2x768x10 .f32) (x6 : FVec Ideal S18x14 .f32) (x7 : FVec Ideal S14x10 .f32) (j : S_.Idx)
    (h : fn (F := Ideal) x0 x1 x2 x3 x4 x5 x6 x7 j = 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
      ∧ (∀ i, ∃ r : ℝ, x6 i = (r : EReal)) ∧ (∀ i, ∃ r : ℝ, x7 i = (r : EReal)) := by
  unfold fn fn_part1 at h
  obtain ⟨h, h7⟩ := and_one h
  obtain ⟨h, h6⟩ := and_one h
  obtain ⟨h, h3⟩ := and_one h
  obtain ⟨h, h2⟩ := and_one h
  obtain ⟨h0, h1⟩ := and_one h
  exact ⟨of_all _ _ _ _ j h0, of_all _ _ _ _ j h1, of_all _ _ _ _ j h2, of_all _ _ _ _ j h3, of_all _ _ _ _ j h6, of_all _ _ _ _ j h7⟩

end Cert.Pre_finite

end
-- ==== Proof.Spec.lean ====
/- What the kernel body computes, as plain functions of its input blocks, at any float values: the scores of a head,
   the plane of scores the first phase leaves, the logits of a group of four query rows, their softmax mixed to the
   value heads, the plane of weights the second phase leaves, and the output block. -/
module

public import proofs.«01_k».proof.Proof.Gen.KernelIdeal.Skeleton
public import Idealize.ShloMosaic.Lib.Claim
public import Idealize.ShloMosaic.Lib.WholeRead
public import Idealize.ShloMosaic.Lib.WritesUnit
public import Idealize.ShloMosaic.Lib.ValueIdxCore

@[expose] public section

set_option maxRecDepth 16384

noncomputable section

namespace Cert.KernelIdeal.Spec

open Idealize.ShloMosaic Idealize.ShloMosaic.ValueIdx
open Cert.KernelIdeal Cert.KernelIdeal.Gen

variable {F : FTy → Type} [FloatOps F] [Named F]

/-! ## The pieces of the inputs that one head reads -/

/-- Head `h`'s block of queries. -/
def qh (x0 : Vec F S1x18x256x160 .fp8e4m3) (h : Fin 18) : Vec F S1x1x256x160 .fp8e4m3 := fun y => x0 (ix4 0 h (y 2) (y 3))
/-- Head `h`'s keys. -/
def kh (x1 : Vec F S1x18x768x160 .fp8e4m3) (h : Fin 18) : Vec F S1x1x768x160 .fp8e4m3 := fun y => x1 (ix4 0 h (y 2) (y 3))
/-- Value head `h`'s values. -/
def vh (x2 : Vec F S1x10x768x160 .fp8e4m3) (h : Fin 10) : Vec F S1x1x768x160 .fp8e4m3 := fun y => x2 (ix4 0 h (y 2) (y 3))
/-- Head `h`'s query scales. -/
def qsh (x3 : Vec F S1x256x18 .f32) (h : Fin 18) : Vec F S1x256x1 .f32 := fun y => x3 (ix3 0 (y 1) h)
/-- Head `h`'s key scales. -/
def ksh (x4 : Vec F S1x18x768 .f32) (h : Fin 18) : Vec F S1x1x768 .f32 := fun y => x4 (ix3 0 h (y 2))

/-- The scores of head `h`, every query of the block against every key. -/
def score (x0 : Vec F S1x18x256x160 .fp8e4m3) (x1 : Vec F S1x18x768x160 .fp8e4m3) (x3 : Vec F S1x256x18 .f32)
    (x4 : Vec F S1x18x768 .f32) (h : Fin 18) : FVec F S256x768 .f32 :=
  k0_pay60 (qh x0 h) (kh x1 h) (qsh x3 h) (ksh x4 h)

/-- The plane of scores: row `18 i + h` of lane chunk `c` holds query `i`'s scores of head `h`, keys `128 c ..`. -/
def scores (x0 : Vec F S1x18x256x160 .fp8e4m3) (x1 : Vec F S1x18x768x160 .fp8e4m3) (x3 : Vec F S1x256x18 .f32)
    (x4 : Vec F S1x18x768 .f32) : Vec F S6x4608x128 .f32 := fun y =>
  score x0 x1 x3 x4 ⟨(y 1).val % 18, Nat.mod_lt _ (by decide)⟩
    (ix2 ⟨(y 1).val / 18, by have := (y 1).isLt; show (y 1).val / 18 < 256; change (y 1).val < 4608 at this; omega⟩
      ⟨128 * (y 0).val + (y 2).val, by
        have h0 := (y 0).isLt; have h2 := (y 2).isLt; change (y 0).val < 6 at h0; change (y 2).val < 128 at h2
        show 128 * (y 0).val + (y 2).val < 768; omega⟩)

/-! ## One group of four query rows -/

/-- Group `t`'s seventy-two rows of lane chunk `c`. -/
def slab (g : Vec F S6x4608x128 .f32) (t : Fin 64) (c : Fin 6) : Vec F S1x72x128 .f32 := fun y =>
  g (ix3 c ⟨72 * t.val + (y 1).val, by
    have := (y 1).isLt; have := t.isLt; change (y 1).val < 72 at *; show 72 * t.val + (y 1).val < 4608; omega⟩ (y 2))

/-- The logits of group `t` over the 256 keys of double chunk `cc`. -/
def lchunk (g : Vec F S6x4608x128 .f32) (x6 : Vec F S168x216 .bf16) (t : Fin 64) (cc : Fin 3) : FVec F S56x256 .f32 :=
  k0_pay2 (slab g t ⟨2 * cc.val, by omega⟩) (slab g t ⟨2 * cc.val + 1, by omega⟩) x6

/-- The logits of group `t`: row `14 i + j` is query `i` of the group, softmax head `j`. -/
def logits (g : Vec F S6x4608x128 .f32) (x6 : Vec F S168x216 .bf16) (t : Fin 64) : Vec F S56x768 .f32 := fun y =>
  lchunk g x6 t ⟨(y 1).val / 256, by have := (y 1).isLt; change (y 1).val < 768 at this; omega⟩
    (ix2 (y 0) ⟨(y 1).val % 256, Nat.mod_lt _ (by decide)⟩)

/-- Columns `256 cc ..` of the softmax rows. -/
def pslice (p : FVec F S56x768 .f32) (cc : Fin 3) : FVec F S56x256 .f32 := fun y =>
  p (ix2 (y 0) ⟨256 * cc.val + (y 1).val, by have := (y 1).isLt; change (y 1).val < 256 at this; show _ < 768; omega⟩)

/-- Columns `256 cc ..` of the value scales. -/
def vsl (x5 : Vec F S1x40x768 .f32) (cc : Fin 3) : Vec F S1x40x256 .f32 := fun y =>
  x5 (ix3 0 (y 1) ⟨256 * cc.val + (y 2).val, by have := (y 2).isLt; change (y 2).val < 256 at this; show _ < 768; omega⟩)

/-- The scaled weights of the rows `L` of logits over the keys of double chunk `cc`. -/
def wchunk (L : Vec F S56x768 .f32) (x5 : Vec F S1x40x768 .f32) (x7 : Vec F S80x224 .bf16) (cc : Fin 3) : FVec F S40x256 .f32 :=
  k0_pay17 (pslice (k0_pay8 L) cc) x7 (vsl x5 cc)

/-- The plane of weights: row `40 t + 10 i + m` of lane chunk `c` holds the weights of group `t`'s query `i` at value
    head `m`, keys `128 c ..`. -/
def weights (g : Vec F S6x4608x128 .f32) (x5 : Vec F S1x40x768 .f32) (x6 : Vec F S168x216 .bf16) (x7 : Vec F S80x224 .bf16) :
    Vec F S6x2560x128 .f32 := fun y =>
  wchunk (logits g x6 ⟨(y 1).val / 40, by have := (y 1).isLt; change (y 1).val < 2560 at this; omega⟩) x5 x7
    ⟨(y 0).val / 2, by have := (y 0).isLt; change (y 0).val < 6 at this; omega⟩
    (ix2 ⟨(y 1).val % 40, Nat.mod_lt _ (by decide)⟩
      ⟨128 * ((y 0).val % 2) + (y 2).val, by
        have h2 := (y 2).isLt; change (y 2).val < 128 at h2; show _ < 256; omega⟩)

/-! ## The output block -/

/-- Value head `m`'s rows of lane chunk `c` of a plane of weights. -/
def prow (p : Vec F S6x2560x128 .f32) (m : Fin 10) (c : Fin 6) : Vec F S1x256x128 .f32 := fun y =>
  p (ix3 c ⟨10 * (y 1).val + m.val, by have := (y 1).isLt; change (y 1).val < 256 at this; show _ < 2560; omega⟩ (y 2))

/-- Value head `m`'s columns of the output block. -/
def outh (p : Vec F S6x2560x128 .f32) (x2 : Vec F S1x10x768x160 .fp8e4m3) (m : Fin 10) : FVec F S1x256x160 .bf16 :=
  k0_pay222 (prow p m 0) (prow p m 1) (prow p m 2) (prow p m 3) (prow p m 4) (prow p m 5) (vh x2 m)

/-- The output block from a plane of weights. -/
def outp (p : Vec F S6x2560x128 .f32) (x2 : Vec F S1x10x768x160 .fp8e4m3) : Vec F S1x256x1600 .bf16 := fun y =>
  outh p x2 ⟨(y 2).val / 160, by have := (y 2).isLt; change (y 2).val < 1600 at this; omega⟩
    (ix3 0 (y 1) ⟨(y 2).val % 160, Nat.mod_lt _ (by decide)⟩)

/-- The output block from the input blocks. -/
def out (x0 : Vec F S1x18x256x160 .fp8e4m3) (x1 : Vec F S1x18x768x160 .fp8e4m3) (x2 : Vec F S1x10x768x160 .fp8e4m3)
    (x3 : Vec F S1x256x18 .f32) (x4 : Vec F S1x18x768 .f32) (x5 : Vec F S1x40x768 .f32) (x6 : Vec F S168x216 .bf16)
    (x7 : Vec F S80x224 .bf16) : Vec F S1x256x1600 .bf16 :=
  outp (weights (scores x0 x1 x3 x4) x5 x6 x7) x2

/-! ## Each load reads its piece -/

section Loads
variable {sig' : RefSig} {κ' : Kind} {sp' : Space}

theorem ld_qh {m : Memref sig' κ' sp' S1x18x256x160 .fp8e4m3} (hm : m.IsWhole) (x0 : Vec F S1x18x256x160 .fp8e4m3) (h : Fin 18)
    (off : Fin 4 → ℕ) (ho : off = ![0, h.val, 0, 0]) (inb) :
    View.readAt (Elt F) m.view (Rect.unit (s := S1x18x256x160) off S1x1x256x160.size inb).toLoadRect (hm.unread x0) = qh x0 h := by
  subst ho; funext y; rw [hm.readAt_unread]
  refine congrArg x0 (funext fun a => Fin.ext ?_)
  have h0 := (y 0).isLt; have h1 := (y 1).isLt; change (y 0).val < 1 at h0; change (y 1).val < 1 at h1
  match a with
  | ⟨0, _⟩ => show 0 + 1 * (y 0).val = 0; omega
  | ⟨1, _⟩ => show h.val + 1 * (y 1).val = h.val; omega
  | ⟨2, _⟩ => show 0 + 1 * (y 2).val = (y 2).val; omega
  | ⟨3, _⟩ => show 0 + 1 * (y 3).val = (y 3).val; omega

theorem ld_kh {m : Memref sig' κ' sp' S1x18x768x160 .fp8e4m3} (hm : m.IsWhole) (x1 : Vec F S1x18x768x160 .fp8e4m3) (h : Fin 18)
    (off : Fin 4 → ℕ) (ho : off = ![0, h.val, 0, 0]) (inb) :
    View.readAt (Elt F) m.view (Rect.unit (s := S1x18x768x160) off S1x1x768x160.size inb).toLoadRect (hm.unread x1) = kh x1 h := by
  subst ho; funext y; rw [hm.readAt_unread]
  refine congrArg x1 (funext fun a => Fin.ext ?_)
  have h0 := (y 0).isLt; have h1 := (y 1).isLt; change (y 0).val < 1 at h0; change (y 1).val < 1 at h1
  match a with
  | ⟨0, _⟩ => show 0 + 1 * (y 0).val = 0; omega
  | ⟨1, _⟩ => show h.val + 1 * (y 1).val = h.val; omega
  | ⟨2, _⟩ => show 0 + 1 * (y 2).val = (y 2).val; omega
  | ⟨3, _⟩ => show 0 + 1 * (y 3).val = (y 3).val; omega

theorem ld_vh {m : Memref sig' κ' sp' S1x10x768x160 .fp8e4m3} (hm : m.IsWhole) (x2 : Vec F S1x10x768x160 .fp8e4m3) (h : Fin 10)
    (off : Fin 4 → ℕ) (ho : off = ![0, h.val, 0, 0]) (inb) :
    View.readAt (Elt F) m.view (Rect.unit (s := S1x10x768x160) off S1x1x768x160.size inb).toLoadRect (hm.unread x2) = vh x2 h := by
  subst ho; funext y; rw [hm.readAt_unread]
  refine congrArg x2 (funext fun a => Fin.ext ?_)
  have h0 := (y 0).isLt; have h1 := (y 1).isLt; change (y 0).val < 1 at h0; change (y 1).val < 1 at h1
  match a with
  | ⟨0, _⟩ => show 0 + 1 * (y 0).val = 0; omega
  | ⟨1, _⟩ => show h.val + 1 * (y 1).val = h.val; omega
  | ⟨2, _⟩ => show 0 + 1 * (y 2).val = (y 2).val; omega
  | ⟨3, _⟩ => show 0 + 1 * (y 3).val = (y 3).val; omega

theorem ld_qsh {m : Memref sig' κ' sp' S1x256x18 .f32} (hm : m.IsWhole) (x3 : Vec F S1x256x18 .f32) (h : Fin 18)
    (off : Fin 3 → ℕ) (ho : off = ![0, 0, h.val]) (inb) :
    View.readAt (Elt F) m.view (Rect.unit (s := S1x256x18) off S1x256x1.size inb).toLoadRect (hm.unread x3) = qsh x3 h := by
  subst ho; funext y; rw [hm.readAt_unread]
  refine congrArg x3 (funext fun a => Fin.ext ?_)
  have h0 := (y 0).isLt; have h2 := (y 2).isLt; change (y 0).val < 1 at h0; change (y 2).val < 1 at h2
  match a with
  | ⟨0, _⟩ => show 0 + 1 * (y 0).val = 0; omega
  | ⟨1, _⟩ => show 0 + 1 * (y 1).val = (y 1).val; omega
  | ⟨2, _⟩ => show h.val + 1 * (y 2).val = h.val; omega

theorem ld_ksh {m : Memref sig' κ' sp' S1x18x768 .f32} (hm : m.IsWhole) (x4 : Vec F S1x18x768 .f32) (h : Fin 18)
    (off : Fin 3 → ℕ) (ho : off = ![0, h.val, 0]) (inb) :
    View.readAt (Elt F) m.view (Rect.unit (s := S1x18x768) off S1x1x768.size inb).toLoadRect (hm.unread x4) = ksh x4 h := by
  subst ho; funext y; rw [hm.readAt_unread]
  refine congrArg x4 (funext fun a => Fin.ext ?_)
  have h0 := (y 0).isLt; have h1 := (y 1).isLt; change (y 0).val < 1 at h0; change (y 1).val < 1 at h1
  match a with
  | ⟨0, _⟩ => show 0 + 1 * (y 0).val = 0; omega
  | ⟨1, _⟩ => show h.val + 1 * (y 1).val = h.val; omega
  | ⟨2, _⟩ => show 0 + 1 * (y 2).val = (y 2).val; omega

theorem ld_slab {m : Memref sig' κ' sp' S6x4608x128 .f32} (hm : m.IsWhole) (g : Vec F S6x4608x128 .f32) (t : Fin 64) (c : Fin 6)
    (off : Fin 3 → ℕ) (ho : off = ![c.val, 72 * t.val, 0]) (inb) :
    View.readAt (Elt F) m.view (Rect.unit (s := S6x4608x128) off S1x72x128.size inb).toLoadRect (hm.unread g) = slab g t c := by
  subst ho; funext y; rw [hm.readAt_unread]
  refine congrArg g (funext fun a => Fin.ext ?_)
  have h0 := (y 0).isLt; change (y 0).val < 1 at h0
  match a with
  | ⟨0, _⟩ => show c.val + 1 * (y 0).val = c.val; omega
  | ⟨1, _⟩ => show 72 * t.val + 1 * (y 1).val = 72 * t.val + (y 1).val; omega
  | ⟨2, _⟩ => show 0 + 1 * (y 2).val = (y 2).val; omega

theorem ld_vsl {m : Memref sig' κ' sp' S1x40x768 .f32} (hm : m.IsWhole) (x5 : Vec F S1x40x768 .f32) (cc : Fin 3)
    (off : Fin 3 → ℕ) (ho : off = ![0, 0, 256 * cc.val]) (inb) :
    View.readAt (Elt F) m.view (Rect.unit (s := S1x40x768) off S1x40x256.size inb).toLoadRect (hm.unread x5) = vsl x5 cc := by
  subst ho; funext y; rw [hm.readAt_unread]
  refine congrArg x5 (funext fun a => Fin.ext ?_)
  have h0 := (y 0).isLt; change (y 0).val < 1 at h0
  match a with
  | ⟨0, _⟩ => show 0 + 1 * (y 0).val = 0; omega
  | ⟨1, _⟩ => show 0 + 1 * (y 1).val = (y 1).val; omega
  | ⟨2, _⟩ => show 256 * cc.val + 1 * (y 2).val = 256 * cc.val + (y 2).val; omega

theorem ld_prow {m : Memref sig' κ' sp' S6x2560x128 .f32} (hm : m.IsWhole) (p : Vec F S6x2560x128 .f32) (r : Fin 10) (c : Fin 6)
    (off : Fin 3 → ℕ) (ho : off = ![c.val, r.val, 0]) (inb) :
    View.readAt (Elt F) m.view (⟨off, S1x256x128.size, ![1, 10, 1], inb⟩ : LoadRect S6x2560x128) (hm.unread p) = prow p r c := by
  subst ho; funext y; rw [hm.readAt_unread]
  refine congrArg p (funext fun a => Fin.ext ?_)
  have h0 := (y 0).isLt; change (y 0).val < 1 at h0
  match a with
  | ⟨0, _⟩ => show c.val + 1 * (y 0).val = c.val; omega
  | ⟨1, _⟩ => show r.val + 10 * (y 1).val = 10 * (y 1).val + r.val; omega
  | ⟨2, _⟩ => show 0 + 1 * (y 2).val = (y 2).val; omega

/-- A load of the whole reads the contents. -/
theorem ld_whole {s : Shape} {e : EltTy} {m : Memref sig' κ' sp' s e} (hm : m.IsWhole) (x : Vec F s e)
    (off : Fin s.rank → ℕ) (ho : off = fun _ => 0) (inb) :
    View.readAt (Elt F) m.view (Rect.unit (s := s) off s.size inb).toLoadRect (hm.unread x) = x := by
  subst ho; funext y; rw [hm.readAt_unread]
  refine congrArg x (funext fun a => Fin.ext ?_)
  show 0 + 1 * (y a).val = (y a).val; omega

end Loads

/-! ## Each store writes its piece -/

/-- A store of 128 columns of head `h`'s scores leaves the plane of scores there. -/
theorem st_score (x0 : Vec F S1x18x256x160 .fp8e4m3) (x1 : Vec F S1x18x768x160 .fp8e4m3) (x3 : Vec F S1x256x18 .f32)
    (x4 : Vec F S1x18x768 .f32) (h : Fin 18) (c : Fin 6) (off : Fin 3 → ℕ) (ho : off = ![c.val, h.val, 0]) (inb) (hp)
    (hs : S256x768.Slices ![0, 128 * c.val] S256x128) (x : S1x256x128.Idx) :
    shapeCast S1x256x128 (extractStridedSlice S256x128 ![0, 128 * c.val] (score x0 x1 x3 x4 h) hs) shapeCasts_S256x128_S1x256x128 x
      = scores x0 x1 x3 x4 ((⟨(⟨off, S1x256x128.size, ![1, 18, 1], inb⟩ : LoadRect S6x4608x128), hp⟩ : Rect S6x4608x128).emb x) := by
  subst ho
  have h0 := (x 0).isLt; have h1 := (x 1).isLt; have h2 := (x 2).isLt
  change (x 0).val < 1 at h0; change (x 1).val < 256 at h1; change (x 2).val < 128 at h2
  have e1 : shapeCast S1x256x128 (extractStridedSlice S256x128 ![0, 128 * c.val] (score x0 x1 x3 x4 h) hs) shapeCasts_S256x128_S1x256x128 x
      = extractStridedSlice S256x128 ![0, 128 * c.val] (score x0 x1 x3 x4 h) hs (ix2 (x 1) (x 2)) := by
    refine congrArg _ (Shape.reshapeEquiv_eq_of_rowMajor _ ?_)
    rw [Shape.rowMajor_val_three, Shape.rowMajor_val_two]
    show (x 1).val * 128 + (x 2).val = ((x 0).val * 256 + (x 1).val) * 128 + (x 2).val
    omega
  rw [e1]
  show score x0 x1 x3 x4 h _ = score x0 x1 x3 x4 _ _
  have eh : (⟨(h.val + 18 * (x 1).val) % 18, Nat.mod_lt _ (by decide)⟩ : Fin 18) = h := Fin.ext (by show (h.val + 18 * (x 1).val) % 18 = h.val; omega)
  refine congr (congrArg (score x0 x1 x3 x4) eh.symm) (funext fun a => Fin.ext ?_)
  match a with
  | ⟨0, _⟩ => show 0 + (x 1).val = (h.val + 18 * (x 1).val) / 18; omega
  | ⟨1, _⟩ => show 128 * c.val + (x 2).val = 128 * (c.val + 1 * (x 0).val) + (0 + 1 * (x 2).val); omega

/-- A store of 256 columns of logits leaves the logits there. -/
theorem st_logits (g : Vec F S6x4608x128 .f32) (x6 : Vec F S168x216 .bf16) (t : Fin 64) (cc : Fin 3)
    (off : Fin 2 → ℕ) (ho : off = ![0, 256 * cc.val]) (inb) (x : S56x256.Idx) :
    lchunk g x6 t cc x = logits g x6 t ((Rect.unit (s := S56x768) off S56x256.size inb).emb x) := by
  subst ho
  have h1 := (x 1).isLt; change (x 1).val < 256 at h1
  show _ = lchunk g x6 t _ _
  have ec : (⟨(256 * cc.val + 1 * (x 1).val) / 256, by omega⟩ : Fin 3) = cc := Fin.ext (by show (256 * cc.val + 1 * (x 1).val) / 256 = cc.val; omega)
  refine congr (congrArg (lchunk g x6 t) ec.symm) (funext fun a => Fin.ext ?_)
  match a with
  | ⟨0, _⟩ => show (x 0).val = 0 + 1 * (x 0).val; omega
  | ⟨1, _⟩ => show (x 1).val = (256 * cc.val + 1 * (x 1).val) % 256; omega

/-- A store of 128 columns of a group's weights leaves the plane of weights there. -/
theorem st_weights (g : Vec F S6x4608x128 .f32) (x5 : Vec F S1x40x768 .f32) (x6 : Vec F S168x216 .bf16) (x7 : Vec F S80x224 .bf16)
    (t : Fin 64) (cc : Fin 3) (b : Fin 2) (off : Fin 3 → ℕ) (ho : off = ![2 * cc.val + b.val, 40 * t.val, 0]) (inb)
    (hs : S40x256.Slices ![0, 128 * b.val] S40x128) (x : S1x40x128.Idx) :
    shapeCast S1x40x128 (extractStridedSlice S40x128 ![0, 128 * b.val] (wchunk (logits g x6 t) x5 x7 cc) hs) shapeCasts_S40x128_S1x40x128 x
      = weights g x5 x6 x7 ((Rect.unit (s := S6x2560x128) off S1x40x128.size inb).emb x) := by
  subst ho
  have h0 := (x 0).isLt; have h1 := (x 1).isLt; have h2 := (x 2).isLt
  change (x 0).val < 1 at h0; change (x 1).val < 40 at h1; change (x 2).val < 128 at h2
  have e1 : shapeCast S1x40x128 (extractStridedSlice S40x128 ![0, 128 * b.val] (wchunk (logits g x6 t) x5 x7 cc) hs) shapeCasts_S40x128_S1x40x128 x
      = extractStridedSlice S40x128 ![0, 128 * b.val] (wchunk (logits g x6 t) x5 x7 cc) hs (ix2 (x 1) (x 2)) := by
    refine congrArg _ (Shape.reshapeEquiv_eq_of_rowMajor _ ?_)
    rw [Shape.rowMajor_val_three, Shape.rowMajor_val_two]
    show (x 1).val * 128 + (x 2).val = ((x 0).val * 40 + (x 1).val) * 128 + (x 2).val
    omega
  rw [e1]
  show wchunk (logits g x6 t) x5 x7 cc _ = wchunk (logits g x6 _) x5 x7 _ _
  have et : (⟨(40 * t.val + 1 * (x 1).val) / 40, by omega⟩ : Fin 64) = t := Fin.ext (by show (40 * t.val + 1 * (x 1).val) / 40 = t.val; omega)
  have ec : (⟨(2 * cc.val + b.val + 1 * (x 0).val) / 2, by omega⟩ : Fin 3) = cc := Fin.ext (by show (2 * cc.val + b.val + 1 * (x 0).val) / 2 = cc.val; omega)
  refine congr (congr (congrArg (fun l => wchunk l x5 x7) (congrArg (logits g x6) et.symm)) ec.symm) (funext fun a => Fin.ext ?_)
  match a with
  | ⟨0, _⟩ => show 0 + (x 1).val = (40 * t.val + 1 * (x 1).val) % 40; omega
  | ⟨1, _⟩ => show 128 * b.val + (x 2).val = 128 * ((2 * cc.val + b.val + 1 * (x 0).val) % 2) + (0 + 1 * (x 2).val); omega

/-- A store of a value head's columns leaves the output block there. -/
theorem st_out (p : Vec F S6x2560x128 .f32) (x2 : Vec F S1x10x768x160 .fp8e4m3) (r : Fin 10)
    (off : Fin 3 → ℕ) (ho : off = ![0, 0, 160 * r.val]) (inb) (x : S1x256x160.Idx) :
    outh p x2 r x = outp p x2 ((Rect.unit (s := S1x256x1600) off S1x256x160.size inb).emb x) := by
  subst ho
  have h0 := (x 0).isLt; have h2 := (x 2).isLt
  change (x 0).val < 1 at h0; change (x 2).val < 160 at h2
  show _ = outh p x2 _ _
  have er : (⟨(160 * r.val + 1 * (x 2).val) / 160, by omega⟩ : Fin 10) = r := Fin.ext (by show (160 * r.val + 1 * (x 2).val) / 160 = r.val; omega)
  refine congr (congrArg (outh p x2) er.symm) (funext fun a => Fin.ext ?_)
  match a with
  | ⟨0, _⟩ => show (x 0).val = 0; omega
  | ⟨1, _⟩ => show (x 1).val = 0 + 1 * (x 1).val; omega
  | ⟨2, _⟩ => show (x 2).val = (160 * r.val + 1 * (x 2).val) % 160; omega

end Cert.KernelIdeal.Spec

end
-- ==== Proof.RunScores.lean ====
/- The first phase of the kernel body: the scores of every head are laid in the first scratch buffer. -/
module

public import proofs.«01_k».proof.Proof.Spec
public import proofs.«01_k».proof.Proof.Gen.KernelIdeal.Frame
public import Idealize.ShloMosaic.Lib.Exec
public import Idealize.ShloMosaic.Lib.Claim

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Spec

variable {F : FTy → Type} [FloatOps F] [Named F]

local notation "𝕄" => MT nD τ sig Unit (Elt F) ℕ (UR sig nD τ) ℕ

/-- The body from the logits of the first group on. -/
def afterScores (i : grid0.Coords) (arg2 : Memref sig .tc .vmem S1x18x256x160 .fp8e4m3) (harg2 : arg2.IsWhole) (arg3 : Memref sig .tc .vmem S1x18x768x160 .fp8e4m3) (harg3 : arg3.IsWhole) (arg4 : Memref sig .tc .vmem S1x10x768x160 .fp8e4m3) (harg4 : arg4.IsWhole) (arg5 : Memref sig .tc .vmem S1x256x18 .f32) (harg5 : arg5.IsWhole) (arg6 : Memref sig .tc .vmem S1x18x768 .f32) (harg6 : arg6.IsWhole) (arg7 : Memref sig .tc .vmem S1x40x768 .f32) (harg7 : arg7.IsWhole) (arg8 : Memref sig .tc .vmem S168x216 .bf16) (harg8 : arg8.IsWhole) (arg9 : Memref sig .tc .vmem S80x224 .bf16) (harg9 : arg9.IsWhole) (arg10 : Memref sig .tc .vmem S1x256x1600 .bf16) (harg10 : arg10.IsWhole) (arg11 : Memref sig .tc .vmem S6x4608x128 .f32) (harg11 : arg11.IsWhole) (arg12 : Memref sig .tc .vmem S6x2560x128 .f32) (harg12 : arg12.IsWhole) (arg13 : Memref sig .tc .vmem S56x768 .f32) (harg13 : arg13.IsWhole) (arg14 : Memref sig .tc .vmem S56x768 .f32) (harg14 : arg14.IsWhole) (v702 : BitVec 32) (v709 : FVec F S72x256 .f32) (v713 : FVec F S72x256 .f32) :
    Prog (TpuEff nD τ sig (Elt F) Λ₀ .tc) PUnit := do
  let v763 : FVec F S56x256 .f32 ← k0_part34_skel i arg2 harg2 arg3 harg3 arg4 harg4 arg5 harg5 arg6 harg6 arg7 harg7 arg8 harg8 arg9 harg9 arg10 harg10 arg11 harg11 arg12 harg12 arg13 harg13 arg14 harg14 v702 v709 v713
  let ⟨v800, v803⟩ : Σ' (v800 : BitVec 32), FVec F S72x128 .f32 ← k0_part35_skel i arg2 harg2 arg3 harg3 arg4 harg4 arg5 harg5 arg6 harg6 arg7 harg7 arg8 harg8 arg9 harg9 arg10 harg10 arg11 harg11 arg12 harg12 arg13 harg13 arg14 harg14 v702 v763
  let ⟨v853, v854⟩ : Σ' (v853 : FVec F S216x256 .bf16), Vec F S168x216 .bf16 ← k0_part36_skel i arg2 harg2 arg3 harg3 arg4 harg4 arg5 harg5 arg6 harg6 arg7 harg7 arg8 harg8 arg9 harg9 arg10 harg10 arg11 harg11 arg12 harg12 arg13 harg13 arg14 harg14 v800 v803
  let ⟨v897, v898⟩ : Σ' (v897 : BitVec 32), Vec F S56x768 .f32 ← k0_part37_skel i arg2 harg2 arg3 harg3 arg4 harg4 arg5 harg5 arg6 harg6 arg7 harg7 arg8 harg8 arg9 harg9 arg10 harg10 arg11 harg11 arg12 harg12 arg13 harg13 arg14 harg14 v800 v853 v854
  let ⟨v909, v944⟩ : Σ' (v909 : FVec F S56x768 .f32), FVec F S56x256 .f32 ← k0_part38_skel i arg2 harg2 arg3 harg3 arg4 harg4 arg5 harg5 arg6 harg6 arg7 harg7 arg8 harg8 arg9 harg9 arg10 harg10 arg11 harg11 arg12 harg12 arg13 harg13 arg14 harg14 v897 v898
  let v995 : FVec F S80x256 .f32 ← k0_part39_skel i arg2 harg2 arg3 harg3 arg4 harg4 arg5 harg5 arg6 harg6 arg7 harg7 arg8 harg8 arg9 harg9 arg10 harg10 arg11 harg11 arg12 harg12 arg13 harg13 arg14 harg14 v897 v909 v944
  let ⟨v1012, v1024, v1039, v1040⟩ : Σ' (v1012 : BitVec 32) (v1024 : FVec F S56x768 .f32) (v1039 : FVec F S224x256 .bf16), Vec F S80x224 .bf16 ← k0_part40_skel i arg2 harg2 arg3 harg3 arg4 harg4 arg5 harg5 arg6 harg6 arg7 harg7 arg8 harg8 arg9 harg9 arg10 harg10 arg11 harg11 arg12 harg12 arg13 harg13 arg14 harg14 v897 v995
  let ⟨v1082, v1083⟩ : Σ' (v1082 : FVec F S40x256 .f32), FVec F S40x128 .f32 ← k0_part41_skel i arg2 harg2 arg3 harg3 arg4 harg4 arg5 harg5 arg6 harg6 arg7 harg7 arg8 harg8 arg9 harg9 arg10 harg10 arg11 harg11 arg12 harg12 arg13 harg13 arg14 harg14 v1012 v1024 v1039 v1040
  let v1127 : Vec F S1x256x128 .f32 ← k0_part42_skel i arg2 harg2 arg3 harg3 arg4 harg4 arg5 harg5 arg6 harg6 arg7 harg7 arg8 harg8 arg9 harg9 arg10 harg10 arg11 harg11 arg12 harg12 arg13 harg13 arg14 harg14 v1012 v1024 v1082 v1083
  let ⟨v1150, v1152, v1154⟩ : Σ' (v1150 : FVec F S256x128 .f32) (v1152 : FVec F S256x128 .f32), FVec F S256x128 .f32 ← k0_part43_skel i arg2 harg2 arg3 harg3 arg4 harg4 arg5 harg5 arg6 harg6 arg7 harg7 arg8 harg8 arg9 harg9 arg10 harg10 arg11 harg11 arg12 harg12 arg13 harg13 arg14 harg14 v1127
  let ⟨v1172, v1174, v1176, v1178, v1180⟩ : Σ' (v1172 : FVec F S256x128 .f32) (v1174 : FVec F S256x128 .f32) (v1176 : FVec F S256x128 .f32) (v1178 : FVec F S256x128 .f32), FVec F S256x128 .f32 ← k0_part44_skel i arg2 harg2 arg3 harg3 arg4 harg4 arg5 harg5 arg6 harg6 arg7 harg7 arg8 harg8 arg9 harg9 arg10 harg10 arg11 harg11 arg12 harg12 arg13 harg13 arg14 harg14 v1150 v1152 v1154
  let ⟨v1206, v1207⟩ : Σ' (v1206 : FVec F S256x768 .bf16), Vec F S1x1x768x160 .fp8e4m3 ← k0_part45_skel i arg2 harg2 arg3 harg3 arg4 harg4 arg5 harg5 arg6 harg6 arg7 harg7 arg8 harg8 arg9 harg9 arg10 harg10 arg11 harg11 arg12 harg12 arg13 harg13 arg14 harg14 v1172 v1174 v1176 v1178 v1180
  let v1236 : FVec F S1x256x160 .bf16 ← k0_part46_skel i arg2 harg2 arg3 harg3 arg4 harg4 arg5 harg5 arg6 harg6 arg7 harg7 arg8 harg8 arg9 harg9 arg10 harg10 arg11 harg11 arg12 harg12 arg13 harg13 arg14 harg14 v1206 v1207
  let ⟨v1260, v1262⟩ : Σ' (v1260 : FVec F S256x128 .f32), FVec F S256x128 .f32 ← k0_part47_skel i arg2 harg2 arg3 harg3 arg4 harg4 arg5 harg5 arg6 harg6 arg7 harg7 arg8 harg8 arg9 harg9 arg10 harg10 arg11 harg11 arg12 harg12 arg13 harg13 arg14 harg14 v1236
  let ⟨v1282, v1284, v1286, v1288⟩ : Σ' (v1282 : FVec F S256x128 .f32) (v1284 : FVec F S256x128 .f32) (v1286 : FVec F S256x128 .f32), FVec F S256x128 .f32 ← k0_part48_skel i arg2 harg2 arg3 harg3 arg4 harg4 arg5 harg5 arg6 harg6 arg7 harg7 arg8 harg8 arg9 harg9 arg10 harg10 arg11 harg11 arg12 harg12 arg13 harg13 arg14 harg14 v1260 v1262
  let v1316 : FVec F S256x768 .bf16 ← k0_part49_skel i arg2 harg2 arg3 harg3 arg4 harg4 arg5 harg5 arg6 harg6 arg7 harg7 arg8 harg8 arg9 harg9 arg10 harg10 arg11 harg11 arg12 harg12 arg13 harg13 arg14 harg14 v1282 v1284 v1286 v1288
  let v1343 : FVec F S256x160 .bf16 ← k0_part50_skel i arg2 harg2 arg3 harg3 arg4 harg4 arg5 harg5 arg6 harg6 arg7 harg7 arg8 harg8 arg9 harg9 arg10 harg10 arg11 harg11 arg12 harg12 arg13 harg13 arg14 harg14 v1316
  let v1344 : Vec F S1x256x160 .bf16 ← Prog.lift (.load arg10 (Rect.unit (s := S1x256x1600) ![0, 0, 1440] S1x256x160.size inb_S1x256x1600_S1x256x160_0_0_1440).toLoadRect (View.loadsAt_vmem h_S1x256x160))
  Prog.lift (.store arg10 (Rect.unit (s := S1x256x1600) ![0, 0, 1440] S1x256x160.size inb_S1x256x1600_S1x256x160_0_0_1440) (k0_pay1 v1343) Finset.univ (View.stores_vmem h_S1x256x160 (harg10.storeExact_slice rfl _ packedbf16_S1x256x1600_S1x256x160_0_0_1440) (fun _ => rfl)) (.inl rfl))
  pure ⟨⟩

/-- Contents of a buffer after a list of stores that cover it, each of which leaves `G` on its box. -/
theorem read_writes {s : Shape} {e : EltTy} {κ' : Kind} {sp' : Space} (m : Memref sig κ' sp' s e) (f) (L : List ((r : Rect s) × (r.shape.Idx → Elt F e))) (G : Vec F s e)
    (hG : ∀ p ∈ L, ∀ x, p.2 x = G (p.1.emb x)) (hc : ∀ y, ∃ p ∈ L, y ∈ p.1.set) :
    m.view.read (Elt F) (m.view.writes (Elt F) f L) = G := by
  funext y; exact View.read_writes_apply_of_pieces m.view f G L hG y (hc y)

/-- What one store of the first phase leaves, its payload read off the loads of head `h`. -/
theorem st_score_ld {arg2 : Memref sig .tc .vmem S1x18x256x160 .fp8e4m3} (harg2 : arg2.IsWhole)
    {arg3 : Memref sig .tc .vmem S1x18x768x160 .fp8e4m3} (harg3 : arg3.IsWhole)
    {arg5 : Memref sig .tc .vmem S1x256x18 .f32} (harg5 : arg5.IsWhole) {arg6 : Memref sig .tc .vmem S1x18x768 .f32} (harg6 : arg6.IsWhole)
    (x0 : Vec F S1x18x256x160 .fp8e4m3) (x1 : Vec F S1x18x768x160 .fp8e4m3) (x3 : Vec F S1x256x18 .f32) (x4 : Vec F S1x18x768 .f32)
    {h c o : ℕ} (hh : h < 18) (hc : c < 6) (ho : o = 128 * c) {i2 i3 i5 i6 inb hp} {hs : S256x768.Slices ![0, o] S256x128} {hcast}
    (x : S1x256x128.Idx) :
    shapeCast S1x256x128 (extractStridedSlice S256x128 ![0, o]
        (k0_pay60 (View.readAt (Elt F) arg2.view (Rect.unit (s := S1x18x256x160) ![0, h, 0, 0] S1x1x256x160.size i2).toLoadRect (harg2.unread x0))
          (View.readAt (Elt F) arg3.view (Rect.unit (s := S1x18x768x160) ![0, h, 0, 0] S1x1x768x160.size i3).toLoadRect (harg3.unread x1))
          (View.readAt (Elt F) arg5.view (Rect.unit (s := S1x256x18) ![0, 0, h] S1x256x1.size i5).toLoadRect (harg5.unread x3))
          (View.readAt (Elt F) arg6.view (Rect.unit (s := S1x18x768) ![0, h, 0] S1x1x768.size i6).toLoadRect (harg6.unread x4))) hs) hcast x
      = scores x0 x1 x3 x4 ((⟨(⟨![c, h, 0], S1x256x128.size, ![1, 18, 1], inb⟩ : LoadRect S6x4608x128), hp⟩ : Rect S6x4608x128).emb x) := by
  subst ho
  rw [ld_qh harg2 x0 ⟨h, hh⟩ _ rfl, ld_kh harg3 x1 ⟨h, hh⟩ _ rfl, ld_qsh harg5 x3 ⟨h, hh⟩ _ rfl, ld_ksh harg6 x4 ⟨h, hh⟩ _ rfl]
  exact st_score x0 x1 x3 x4 ⟨h, hh⟩ ⟨c, hc⟩ _ rfl inb hp hs x

/-- The stores of the first phase, last first: head by head, lane chunk by lane chunk. -/
theorem cover_scores (L : List ((r : Rect S6x4608x128) × (r.shape.Idx → Elt F .f32)))
    (hL : L.map (fun p => (p.1.off, p.1.size, p.1.stride))
      = (List.range 108).map (fun k => ((![(107 - k) % 6, (107 - k) / 6, 0] : Fin 3 → ℕ), S1x256x128.size, (![1, 18, 1] : Fin 3 → ℕ))))
    (y : S6x4608x128.Idx) : ∃ p ∈ L, y ∈ p.1.set := by
  have h0 := (y 0).isLt; have h1 := (y 1).isLt; have h2 := (y 2).isLt
  change (y 0).val < 6 at h0; change (y 1).val < 4608 at h1; change (y 2).val < 128 at h2
  have hm : ((![(y 0).val, (y 1).val % 18, 0] : Fin 3 → ℕ), S1x256x128.size, (![1, 18, 1] : Fin 3 → ℕ)) ∈ L.map (fun p => (p.1.off, p.1.size, p.1.stride)) := by
    rw [hL, List.mem_map]
    refine ⟨107 - (6 * ((y 1).val % 18) + (y 0).val), List.mem_range.2 (by omega), ?_⟩
    rw [show (107 - (107 - (6 * ((y 1).val % 18) + (y 0).val))) % 6 = (y 0).val by omega,
      show (107 - (107 - (6 * ((y 1).val % 18) + (y 0).val))) / 6 = (y 1).val % 18 by omega]
  obtain ⟨⟨⟨⟨off, size, stride, inb⟩, hp⟩, w⟩, hmem, he⟩ := List.mem_map.1 hm
  obtain ⟨rfl, e2⟩ := Prod.mk.inj he
  obtain ⟨rfl, rfl⟩ := Prod.mk.inj e2
  refine ⟨_, hmem, (LoadRect.mem_set _).2 fun a => ?_⟩
  match a with
  | ⟨0, _⟩ => exact ⟨0, Nat.zero_lt_one, by show (y 0).val = (y 0).val + 1 * 0; omega⟩
  | ⟨1, _⟩ => exact ⟨(y 1).val / 18, by show _ < 256; omega, by show (y 1).val = (y 1).val % 18 + 18 * ((y 1).val / 18); omega⟩
  | ⟨2, _⟩ => exact ⟨(y 2).val, h2, by show (y 2).val = 0 + 1 * (y 2).val; omega⟩

set_option maxHeartbeats 4000000 in
/-- The first phase. -/
theorem runA (c : Dev nD) (i : grid0.Coords) (arg2 : Memref sig .tc .vmem S1x18x256x160 .fp8e4m3) (harg2 : arg2.IsWhole) (arg3 : Memref sig .tc .vmem S1x18x768x160 .fp8e4m3) (harg3 : arg3.IsWhole) (arg4 : Memref sig .tc .vmem S1x10x768x160 .fp8e4m3) (harg4 : arg4.IsWhole) (arg5 : Memref sig .tc .vmem S1x256x18 .f32) (harg5 : arg5.IsWhole) (arg6 : Memref sig .tc .vmem S1x18x768 .f32) (harg6 : arg6.IsWhole) (arg7 : Memref sig .tc .vmem S1x40x768 .f32) (harg7 : arg7.IsWhole) (arg8 : Memref sig .tc .vmem S168x216 .bf16) (harg8 : arg8.IsWhole) (arg9 : Memref sig .tc .vmem S80x224 .bf16) (harg9 : arg9.IsWhole) (arg10 : Memref sig .tc .vmem S1x256x1600 .bf16) (harg10 : arg10.IsWhole) (arg11 : Memref sig .tc .vmem S6x4608x128 .f32) (harg11 : arg11.IsWhole) (arg12 : Memref sig .tc .vmem S6x2560x128 .f32) (harg12 : arg12.IsWhole) (arg13 : Memref sig .tc .vmem S56x768 .f32) (harg13 : arg13.IsWhole) (arg14 : Memref sig .tc .vmem S56x768 .f32) (harg14 : arg14.IsWhole)
    (x0 : Vec F S1x18x256x160 .fp8e4m3) (x1 : Vec F S1x18x768x160 .fp8e4m3) (x2 : Vec F S1x10x768x160 .fp8e4m3) (x3 : Vec F S1x256x18 .f32) (x4 : Vec F S1x18x768 .f32) (x5 : Vec F S1x40x768 .f32) (x6 : Vec F S168x216 .bf16) (x7 : Vec F S80x224 .bf16) (R : sProp 𝕄) (E : Set ℕ) (K : PUnit → sProp 𝕄)
    (h : ∀ v709 v713, v709 = k0_pay184 (slab (scores x0 x1 x3 x4) 0 0) (slab (scores x0 x1 x3 x4) 0 1) →
      v713 = k0_pay185 (slab (scores x0 x1 x3 x4) 0 0) (slab (scores x0 x1 x3 x4) 0 1) →
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare (scores x0 x1 x3 x4) ∗ (∃ d, owns (c : Thread nD τ) arg12 fullShare d) ∗ (∃ d, owns (c : Thread nD τ) arg13 fullShare d) ∗ (∃ d, owns (c : Thread nD τ) arg14 fullShare d) ∗ R)
        ⊢ wp frame (wpE (defs₀ (F := F)) Variants.none c none) E (afterScores i arg2 harg2 arg3 harg3 arg4 harg4 arg5 harg5 arg6 harg6 arg7 harg7 arg8 harg8 arg9 harg9 arg10 harg10 arg11 harg11 arg12 harg12 arg13 harg13 arg14 harg14 0#32 v709 v713) K) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ R)
      ⊢ wp frame (wpE (defs₀ (F := F)) Variants.none c none) E (cc0_talking_heads i arg2 harg2 arg3 harg3 arg4 harg4 arg5 harg5 arg6 harg6 arg7 harg7 arg8 harg8 arg9 harg9 arg10 harg10 arg11 harg11 arg12 harg12 arg13 harg13 arg14 harg14) K := by
  simp only [cc0_talking_heads_eq_skeleton]; unfold cc0_talking_heads_skel
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold afterScores at h
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%d11, %f11, -, H11⟩, ⟨%d12, %f12, %hf12, H12⟩, ⟨%d13, %f13, %hf13, H13⟩, ⟨%d14, %f14, %hf14, H14⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  set_option sl_exec.stopBefore "k0_part34" in sl_exec
  have hw : arg11.view.writes (Elt F) f11 (runA.sl.H11_108 c arg2 harg2 arg3 harg3 arg5 harg5 arg6 harg6 x0 x1 x3 x4) = harg11.unread (scores x0 x1 x3 x4) := by
    clear h
    refine harg11.eq_unread (read_writes _ _ _ _ ?_ (cover_scores _ ?_))
    · sl_unfold_run_names
      simp only [List.forall_mem_cons]
      repeat' apply And.intro
      all_goals first
        | exact fun x => st_score_ld harg2 harg3 harg5 harg6 x0 x1 x3 x4 (by decide) (by decide) (by rfl) x
        | (intro x; simp only [k0_pay40, k0_pay64, k0_pay70, k0_pay90, k0_pay95, k0_pay115, k0_pay121, k0_pay146, k0_pay152, k0_pay167, k0_pay177, k0_pay41, k0_pay65, k0_pay71, k0_pay91, k0_pay96, k0_pay116, k0_pay122, k0_pay147, k0_pay153, k0_pay168, k0_pay178]; exact st_score_ld harg2 harg3 harg5 harg6 x0 x1 x3 x4 (by decide) (by decide) (by rfl) x)
        | exact fun p hp => absurd hp List.not_mem_nil
    · sl_unfold_run_names
      rfl
  iapply (h _ _ ?e1 ?e2)
  case e1 =>
    clear h
    show k0_pay184 (View.readAt (Elt F) arg11.view (Rect.unit (s := S6x4608x128) ![0, 0, 0] S1x72x128.size inb_S6x4608x128_S1x72x128_0_0_0).toLoadRect
        (arg11.view.writes (Elt F) f11 (runA.sl.H11_108 c arg2 harg2 arg3 harg3 arg5 harg5 arg6 harg6 x0 x1 x3 x4)))
      (View.readAt (Elt F) arg11.view (Rect.unit (s := S6x4608x128) ![1, 0, 0] S1x72x128.size inb_S6x4608x128_S1x72x128_1_0_0).toLoadRect
        (arg11.view.writes (Elt F) f11 (runA.sl.H11_108 c arg2 harg2 arg3 harg3 arg5 harg5 arg6 harg6 x0 x1 x3 x4))) = _
    rw [hw, ld_slab harg11 _ 0 0 ![0, 0, 0] rfl, ld_slab harg11 _ 0 1 ![1, 0, 0] rfl]
  case e2 =>
    clear h
    show k0_pay185 (View.readAt (Elt F) arg11.view (Rect.unit (s := S6x4608x128) ![0, 0, 0] S1x72x128.size inb_S6x4608x128_S1x72x128_0_0_0).toLoadRect
        (arg11.view.writes (Elt F) f11 (runA.sl.H11_108 c arg2 harg2 arg3 harg3 arg5 harg5 arg6 harg6 x0 x1 x3 x4)))
      (View.readAt (Elt F) arg11.view (Rect.unit (s := S6x4608x128) ![1, 0, 0] S1x72x128.size inb_S6x4608x128_S1x72x128_1_0_0).toLoadRect
        (arg11.view.writes (Elt F) f11 (runA.sl.H11_108 c arg2 harg2 arg3 harg3 arg5 harg5 arg6 harg6 x0 x1 x3 x4))) = _
    rw [hw, ld_slab harg11 _ 0 0 ![0, 0, 0] rfl, ld_slab harg11 _ 0 1 ![1, 0, 0] rfl]
  clear h
  unfold owns
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _, _; isplitr; swap; · iexact H10
    ipureintro; rfl
  isplitl [H11]
  · iexists _; isplitr; swap; · iexact H11
    ipureintro; rw [hw]; exact harg11.read_unread _
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexact Hk

end Cert.KernelIdeal.Value

end
-- ==== Proof.RunPieces.lean ====
/- What the stores of the kernel leave, one by one, and which indices they cover. -/
module

public import proofs.«01_k».proof.Proof.Spec
public import proofs.«01_k».proof.Proof.Gen.KernelIdeal.Frame
public import Idealize.ShloMosaic.Lib.Exec
public import Idealize.ShloMosaic.Lib.Claim
public import proofs.«01_k».proof.Proof.RunScores

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Spec

variable {F : FTy → Type} [FloatOps F] [Named F]

local notation "𝕄" => MT nD τ sig Unit (Elt F) ℕ (UR sig nD τ) ℕ

/-- The box of a piece, as numbers. -/
abbrev box {s : Shape} {e : EltTy} (p : (r : Rect s) × (r.shape.Idx → Elt F e)) : (Fin s.rank → ℕ) × (Fin s.rank → ℕ) × (Fin s.rank → ℕ) :=
  (p.1.off, p.1.size, p.1.stride)

/-- An index between the bounds of a piece's box lies in a piece. -/
theorem mem_cover {s : Shape} {e : EltTy} {L : List ((r : Rect s) × (r.shape.Idx → Elt F e))} {off size : Fin s.rank → ℕ}
    (h : (off, size, fun _ => 1) ∈ L.map box) (y : s.Idx) (hy : ∀ a, off a ≤ (y a).val ∧ (y a).val < off a + size a) :
    ∃ p ∈ L, y ∈ p.1.set := by
  obtain ⟨⟨⟨⟨off, size, stride, inb⟩, hp⟩, w⟩, hmem, he⟩ := List.mem_map.1 h
  obtain ⟨rfl, e2⟩ := Prod.mk.inj he
  obtain ⟨rfl, rfl⟩ := Prod.mk.inj e2
  refine ⟨_, hmem, (LoadRect.mem_set _).2 fun a => ⟨(y a).val - off a, ?_, ?_⟩⟩
  · have h1 : off a ≤ (y a).val := (hy a).1; have h2 : (y a).val < off a + size a := (hy a).2; show (y a).val - off a < size a; omega
  · have h1 : off a ≤ (y a).val := (hy a).1; show (y a).val = off a + 1 * ((y a).val - off a); omega

/-- Contents after a list of stores each of which leaves `G` on its box, at an index in a box or where `G` was there. -/
theorem read_writes_or {s : Shape} {e : EltTy} {κ' : Kind} {sp' : Space} (m : Memref sig κ' sp' s e) (f) (L : List ((r : Rect s) × (r.shape.Idx → Elt F e))) (G : Vec F s e)
    (hG : ∀ p ∈ L, ∀ x, p.2 x = G (p.1.emb x)) (y : s.Idx) (hy : (∃ p ∈ L, y ∈ p.1.set) ∨ m.view.read (Elt F) f y = G y) :
    m.view.read (Elt F) (m.view.writes (Elt F) f L) y = G y := by
  by_cases hc : ∃ p ∈ L, y ∈ p.1.set
  · exact View.read_writes_apply_of_pieces m.view f G L hG y hc
  · rw [View.read_writes_apply_of_forall_not_mem m.view f y L (fun p hp hy' => hc ⟨p, hp, hy'⟩)]
    exact hy.resolve_left hc

/-- What one store of logits leaves, its payload read off the loads of the plane of scores. -/
theorem st_logits_ld {arg11 : Memref sig .tc .vmem S6x4608x128 .f32} (harg11 : arg11.IsWhole) {arg8 : Memref sig .tc .vmem S168x216 .bf16} (harg8 : arg8.IsWhole)
    (g : Vec F S6x4608x128 .f32) (x6 : Vec F S168x216 .bf16) (t : Fin 64) (cc : Fin 3) {o1 o2 : Fin 3 → ℕ} {off : Fin 2 → ℕ}
    (h1 : o1 = ![2 * cc.val, 72 * t.val, 0]) (h2 : o2 = ![2 * cc.val + 1, 72 * t.val, 0]) (ho : off = ![0, 256 * cc.val]) {i1 i2 i8 inb} (x : S56x256.Idx) :
    k0_pay2 (View.readAt (Elt F) arg11.view (Rect.unit (s := S6x4608x128) o1 S1x72x128.size i1).toLoadRect (harg11.unread g))
        (View.readAt (Elt F) arg11.view (Rect.unit (s := S6x4608x128) o2 S1x72x128.size i2).toLoadRect (harg11.unread g))
        (View.readAt (Elt F) arg8.view (Rect.unit (s := S168x216) ![0, 0] S168x216.size i8).toLoadRect (harg8.unread x6)) x
      = logits g x6 t ((Rect.unit (s := S56x768) off S56x256.size inb).emb x) := by
  rw [ld_slab harg11 g t ⟨2 * cc.val, by omega⟩ o1 h1, ld_slab harg11 g t ⟨2 * cc.val + 1, by omega⟩ o2 h2,
    ld_whole harg8 x6 ![0, 0] (by funext a; match a with | ⟨0, _⟩ => rfl | ⟨1, _⟩ => rfl)]
  exact st_logits g x6 t cc off ho inb x

/-- Three stores of 256 columns cover the logits. -/
theorem cover_logits (L : List ((r : Rect S56x768) × (r.shape.Idx → Elt F .f32)))
    (hL : L.map box = [((![0, 512] : Fin 2 → ℕ), S56x256.size, fun _ => 1), ((![0, 256] : Fin 2 → ℕ), S56x256.size, fun _ => 1), ((![0, 0] : Fin 2 → ℕ), S56x256.size, fun _ => 1)])
    (y : S56x768.Idx) : ∃ p ∈ L, y ∈ p.1.set := by
  have h0 := (y 0).isLt; have h1 := (y 1).isLt
  change (y 0).val < 56 at h0; change (y 1).val < 768 at h1
  rcases Nat.lt_or_ge (y 1).val 256 with h | h
  · refine mem_cover (s := S56x768) (off := ![0, 0]) (size := S56x256.size) (by rw [hL]; simp) y fun a => ?_
    match a with
    | ⟨0, _⟩ => exact ⟨Nat.zero_le _, by show (y 0).val < 0 + 56; omega⟩
    | ⟨1, _⟩ => exact ⟨Nat.zero_le _, by show (y 1).val < 0 + 256; omega⟩
  rcases Nat.lt_or_ge (y 1).val 512 with h' | h'
  · refine mem_cover (s := S56x768) (off := ![0, 256]) (size := S56x256.size) (by rw [hL]; simp) y fun a => ?_
    match a with
    | ⟨0, _⟩ => exact ⟨Nat.zero_le _, by show (y 0).val < 0 + 56; omega⟩
    | ⟨1, _⟩ => exact ⟨h, by show (y 1).val < 256 + 256; omega⟩
  · refine mem_cover (s := S56x768) (off := ![0, 512]) (size := S56x256.size) (by rw [hL]; simp) y fun a => ?_
    match a with
    | ⟨0, _⟩ => exact ⟨Nat.zero_le _, by show (y 0).val < 0 + 56; omega⟩
    | ⟨1, _⟩ => exact ⟨h', by show (y 1).val < 512 + 256; omega⟩

/-! The logits and the weights that the body computes at its several places are the same functions of what is loaded. -/

theorem lst_0 (a b : Vec F S1x72x128 .f32) (w : Vec F S168x216 .bf16) : k0_pay4 (k0_pay3 a b) w = k0_pay2 a b w := rfl
theorem lst_1 (a b : Vec F S1x72x128 .f32) (w : Vec F S168x216 .bf16) : k0_pay7 (k0_pay5 a b w) (k0_pay6 a b w) = k0_pay2 a b w := rfl
theorem lst_2 (a b : Vec F S1x72x128 .f32) (w : Vec F S168x216 .bf16) : k0_pay21 (k0_pay20 a b) w = k0_pay2 a b w := rfl
theorem lst_3 (a b : Vec F S1x72x128 .f32) (w : Vec F S168x216 .bf16) : k0_pay25 (k0_pay22 a b w) (k0_pay23 a b w) (k0_pay24 a b w) = k0_pay2 a b w := rfl
theorem lst_4 (a b : Vec F S1x72x128 .f32) (w : Vec F S168x216 .bf16) : k0_pay26 a b w = k0_pay2 a b w := rfl
theorem lst_5 (a b : Vec F S1x72x128 .f32) (w : Vec F S168x216 .bf16) : k0_pay186 (k0_pay184 a b) (k0_pay185 a b) w = k0_pay2 a b w := rfl
theorem lst_6 (a b : Vec F S1x72x128 .f32) (w : Vec F S168x216 .bf16) : k0_pay188 (k0_pay187 a b w) = k0_pay2 a b w := rfl
theorem lst_7 (a b : Vec F S1x72x128 .f32) (w : Vec F S168x216 .bf16) : k0_pay189 a b w = k0_pay2 a b w := rfl
theorem lst_8 (a b : Vec F S1x72x128 .f32) (w : Vec F S168x216 .bf16) : k0_pay194 (k0_pay193 a) b w = k0_pay2 a b w := rfl
theorem lst_9 (a b : Vec F S1x72x128 .f32) (w : Vec F S168x216 .bf16) : k0_pay196 (k0_pay195 a b) w = k0_pay2 a b w := rfl
theorem lst_10 (a b : Vec F S1x72x128 .f32) (w : Vec F S168x216 .bf16) : k0_pay197 a b w = k0_pay2 a b w := rfl

/-- One store's share of a group's weights, from the logits, the mixing matrix and the value scales loaded. -/
def wst {o ob : ℕ} (hs : S40x256.Slices ![0, ob] S40x128) (hs' : S56x768.Slices ![0, o] S56x256) (hc : S40x128.ShapeCasts S1x40x128)
    (L : FVec F S56x768 .f32) (w : Vec F S80x224 .bf16) (v : Vec F S1x40x256 .f32) : FVec F S1x40x128 .f32 :=
  shapeCast S1x40x128 (extractStridedSlice S40x128 ![0, ob] (k0_pay17 (extractStridedSlice S56x256 ![0, o] (k0_pay8 L) hs') w v) hs) hc

theorem wst_0 (L : FVec F S56x768 .f32) (w : Vec F S80x224 .bf16) (v : Vec F S1x40x256 .f32) :
    k0_pay11 (k0_pay10 L w v) = wst slices_S40x256_o0_0_S40x128 slices_S56x768_o0_0_S56x256 shapeCasts_S40x128_S1x40x128 L w v := rfl
theorem wst_1 (L : FVec F S56x768 .f32) (w : Vec F S80x224 .bf16) (v : Vec F S1x40x256 .f32) :
    k0_pay12 (k0_pay9 L w v) = wst slices_S40x256_o0_128_S40x128 slices_S56x768_o0_0_S56x256 shapeCasts_S40x128_S1x40x128 L w v := rfl
theorem wst_2 (L : FVec F S56x768 .f32) (w : Vec F S80x224 .bf16) (v : Vec F S1x40x256 .f32) :
    k0_pay14 (k0_pay8 L) w v = wst slices_S40x256_o0_0_S40x128 slices_S56x768_o0_256_S56x256 shapeCasts_S40x128_S1x40x128 L w v := rfl
theorem wst_3 (L : FVec F S56x768 .f32) (w : Vec F S80x224 .bf16) (v : Vec F S1x40x256 .f32) :
    k0_pay15 (k0_pay8 L) w v = wst slices_S40x256_o0_128_S40x128 slices_S56x768_o0_256_S56x256 shapeCasts_S40x128_S1x40x128 L w v := rfl
theorem wst_4 (L : FVec F S56x768 .f32) (w : Vec F S80x224 .bf16) (v : Vec F S1x40x256 .f32) :
    k0_pay18 (k0_pay16 (k0_pay8 L)) w v = wst slices_S40x256_o0_0_S40x128 slices_S56x768_o0_512_S56x256 shapeCasts_S40x128_S1x40x128 L w v := rfl
theorem wst_5 (L : FVec F S56x768 .f32) (w : Vec F S80x224 .bf16) (v : Vec F S1x40x256 .f32) :
    k0_pay19 (k0_pay16 (k0_pay8 L)) w v = wst slices_S40x256_o0_128_S40x128 slices_S56x768_o0_512_S56x256 shapeCasts_S40x128_S1x40x128 L w v := rfl
theorem wst_6 (L : FVec F S56x768 .f32) (w : Vec F S80x224 .bf16) (v : Vec F S1x40x256 .f32) :
    k0_pay29 L w v = wst slices_S40x256_o0_0_S40x128 slices_S56x768_o0_0_S56x256 shapeCasts_S40x128_S1x40x128 L w v := rfl
theorem wst_7 (L : FVec F S56x768 .f32) (w : Vec F S80x224 .bf16) (v : Vec F S1x40x256 .f32) :
    k0_pay30 L w v = wst slices_S40x256_o0_128_S40x128 slices_S56x768_o0_0_S56x256 shapeCasts_S40x128_S1x40x128 L w v := rfl
theorem wst_8 (L : FVec F S56x768 .f32) (w : Vec F S80x224 .bf16) (v : Vec F S1x40x256 .f32) :
    k0_pay33 (k0_pay31 L) w v = wst slices_S40x256_o0_0_S40x128 slices_S56x768_o0_256_S56x256 shapeCasts_S40x128_S1x40x128 L w v := rfl
theorem wst_9 (L : FVec F S56x768 .f32) (w : Vec F S80x224 .bf16) (v : Vec F S1x40x256 .f32) :
    k0_pay34 (k0_pay31 L) w v = wst slices_S40x256_o0_128_S40x128 slices_S56x768_o0_256_S56x256 shapeCasts_S40x128_S1x40x128 L w v := rfl
theorem wst_10 (L : FVec F S56x768 .f32) (w : Vec F S80x224 .bf16) (v : Vec F S1x40x256 .f32) :
    k0_pay191 (k0_pay35 (k0_pay27 L) w) v = wst slices_S40x256_o0_0_S40x128 slices_S56x768_o0_512_S56x256 shapeCasts_S40x128_S1x40x128 L w v := rfl
theorem wst_11 (L : FVec F S56x768 .f32) (w : Vec F S80x224 .bf16) (v : Vec F S1x40x256 .f32) :
    k0_pay192 (k0_pay35 (k0_pay27 L) w) v = wst slices_S40x256_o0_128_S40x128 slices_S56x768_o0_512_S56x256 shapeCasts_S40x128_S1x40x128 L w v := rfl
theorem wst_12 (L : FVec F S56x768 .f32) (w : Vec F S80x224 .bf16) (v : Vec F S1x40x256 .f32) :
    k0_pay200 L w v = wst slices_S40x256_o0_0_S40x128 slices_S56x768_o0_0_S56x256 shapeCasts_S40x128_S1x40x128 L w v := rfl
theorem wst_13 (L : FVec F S56x768 .f32) (w : Vec F S80x224 .bf16) (v : Vec F S1x40x256 .f32) :
    k0_pay201 L w v = wst slices_S40x256_o0_128_S40x128 slices_S56x768_o0_0_S56x256 shapeCasts_S40x128_S1x40x128 L w v := rfl
theorem wst_14 (L : FVec F S56x768 .f32) (w : Vec F S80x224 .bf16) (v : Vec F S1x40x256 .f32) :
    k0_pay204 (k0_pay202 L) w v = wst slices_S40x256_o0_0_S40x128 slices_S56x768_o0_256_S56x256 shapeCasts_S40x128_S1x40x128 L w v := rfl
theorem wst_15 (L : FVec F S56x768 .f32) (w : Vec F S80x224 .bf16) (v : Vec F S1x40x256 .f32) :
    k0_pay205 (k0_pay202 L) w v = wst slices_S40x256_o0_128_S40x128 slices_S56x768_o0_256_S56x256 shapeCasts_S40x128_S1x40x128 L w v := rfl
theorem wst_16 (L : FVec F S56x768 .f32) (w : Vec F S80x224 .bf16) (v : Vec F S1x40x256 .f32) :
    k0_pay208 (k0_pay206 (k0_pay198 L) w) v = wst slices_S40x256_o0_0_S40x128 slices_S56x768_o0_512_S56x256 shapeCasts_S40x128_S1x40x128 L w v := rfl
theorem wst_17 (L : FVec F S56x768 .f32) (w : Vec F S80x224 .bf16) (v : Vec F S1x40x256 .f32) :
    k0_pay209 (k0_pay206 (k0_pay198 L) w) v = wst slices_S40x256_o0_128_S40x128 slices_S56x768_o0_512_S56x256 shapeCasts_S40x128_S1x40x128 L w v := rfl
theorem wst_18 (L : FVec F S56x768 .f32) (w : Vec F S80x224 .bf16) (v : Vec F S1x40x256 .f32) :
    k0_pay213 (k0_pay211 L) w v = wst slices_S40x256_o0_0_S40x128 slices_S56x768_o0_0_S56x256 shapeCasts_S40x128_S1x40x128 L w v := rfl
theorem wst_19 (L : FVec F S56x768 .f32) (w : Vec F S80x224 .bf16) (v : Vec F S1x40x256 .f32) :
    k0_pay214 (k0_pay211 L) w v = wst slices_S40x256_o0_128_S40x128 slices_S56x768_o0_0_S56x256 shapeCasts_S40x128_S1x40x128 L w v := rfl
theorem wst_20 (L : FVec F S56x768 .f32) (w : Vec F S80x224 .bf16) (v : Vec F S1x40x256 .f32) :
    k0_pay217 (k0_pay216 (k0_pay210 L) w v) = wst slices_S40x256_o0_0_S40x128 slices_S56x768_o0_256_S56x256 shapeCasts_S40x128_S1x40x128 L w v := rfl
theorem wst_21 (L : FVec F S56x768 .f32) (w : Vec F S80x224 .bf16) (v : Vec F S1x40x256 .f32) :
    k0_pay218 (k0_pay215 (k0_pay210 L) w v) = wst slices_S40x256_o0_128_S40x128 slices_S56x768_o0_256_S56x256 shapeCasts_S40x128_S1x40x128 L w v := rfl
theorem wst_22 (L : FVec F S56x768 .f32) (w : Vec F S80x224 .bf16) (v : Vec F S1x40x256 .f32) :
    k0_pay220 (k0_pay210 L) w v = wst slices_S40x256_o0_0_S40x128 slices_S56x768_o0_512_S56x256 shapeCasts_S40x128_S1x40x128 L w v := rfl
theorem wst_23 (L : FVec F S56x768 .f32) (w : Vec F S80x224 .bf16) (v : Vec F S1x40x256 .f32) :
    k0_pay221 (k0_pay210 L) w v = wst slices_S40x256_o0_128_S40x128 slices_S56x768_o0_512_S56x256 shapeCasts_S40x128_S1x40x128 L w v := rfl

/-- What one store of weights leaves, its payload read off the loads of the logits. -/
theorem st_weights_ld {m : Memref sig .tc .vmem S56x768 .f32} (hm : m.IsWhole) {arg9 : Memref sig .tc .vmem S80x224 .bf16} (harg9 : arg9.IsWhole)
    {arg7 : Memref sig .tc .vmem S1x40x768 .f32} (harg7 : arg7.IsWhole)
    (g : Vec F S6x4608x128 .f32) (x5 : Vec F S1x40x768 .f32) (x6 : Vec F S168x216 .bf16) (x7 : Vec F S80x224 .bf16) (t : Fin 64) (cc : Fin 3) (b : Fin 2)
    {f} (hf : f = hm.unread (logits g x6 t)) {o ob : ℕ} {off : Fin 3 → ℕ} (ho : o = 256 * cc.val) (hob : ob = 128 * b.val)
    (hoff : off = ![2 * cc.val + b.val, 40 * t.val, 0]) {i1 i7 i9 inb} {hs : S40x256.Slices ![0, ob] S40x128} {hs' : S56x768.Slices ![0, o] S56x256} {hc}
    (x : S1x40x128.Idx) :
    wst hs hs' hc (View.readAt (Elt F) m.view (Rect.unit (s := S56x768) ![0, 0] S56x768.size i1).toLoadRect f)
          (View.readAt (Elt F) arg9.view (Rect.unit (s := S80x224) ![0, 0] S80x224.size i9).toLoadRect (harg9.unread x7))
          (View.readAt (Elt F) arg7.view (Rect.unit (s := S1x40x768) ![0, 0, o] S1x40x256.size i7).toLoadRect (harg7.unread x5)) x
      = weights g x5 x6 x7 ((Rect.unit (s := S6x2560x128) off S1x40x128.size inb).emb x) := by
  subst ho hob hf
  unfold wst
  rw [ld_whole hm _ ![0, 0] (by funext a; match a with | ⟨0, _⟩ => rfl | ⟨1, _⟩ => rfl),
    ld_whole harg9 x7 ![0, 0] (by funext a; match a with | ⟨0, _⟩ => rfl | ⟨1, _⟩ => rfl), ld_vsl harg7 x5 cc _ rfl]
  rw [show extractStridedSlice S56x256 ![0, 256 * cc.val] (k0_pay8 (logits g x6 t)) hs' = pslice (k0_pay8 (logits g x6 t)) cc from ?_]
  · exact st_weights g x5 x6 x7 t cc b off hoff inb hs x
  · funext y
    refine congrArg (k0_pay8 (logits g x6 t)) (funext fun a => Fin.ext ?_)
    match a with
    | ⟨0, _⟩ => show 0 + (y 0).val = (y 0).val; omega
    | ⟨1, _⟩ => rfl

/-- The twelve boxes of weights that two groups store from row `n` on, last first. -/
def boxes (n : ℕ) : List ((Fin 3 → ℕ) × (Fin 3 → ℕ) × (Fin 3 → ℕ)) :=
  [(![5, n + 40, 0], S1x40x128.size, fun _ => 1), (![4, n + 40, 0], S1x40x128.size, fun _ => 1), (![3, n + 40, 0], S1x40x128.size, fun _ => 1),
    (![2, n + 40, 0], S1x40x128.size, fun _ => 1), (![1, n + 40, 0], S1x40x128.size, fun _ => 1), (![0, n + 40, 0], S1x40x128.size, fun _ => 1),
    (![5, n, 0], S1x40x128.size, fun _ => 1), (![4, n, 0], S1x40x128.size, fun _ => 1), (![3, n, 0], S1x40x128.size, fun _ => 1),
    (![2, n, 0], S1x40x128.size, fun _ => 1), (![1, n, 0], S1x40x128.size, fun _ => 1), (![0, n, 0], S1x40x128.size, fun _ => 1)]

/-- They cover rows `n` to `n + 80`. -/
theorem cover_weights (n : ℕ) (L : List ((r : Rect S6x2560x128) × (r.shape.Idx → Elt F .f32))) (hL : L.map box = boxes n)
    (y : S6x2560x128.Idx) (hlo : n ≤ (y 1).val) (hhi : (y 1).val < n + 80) : ∃ p ∈ L, y ∈ p.1.set := by
  have h0 := (y 0).isLt; have h2 := (y 2).isLt
  change (y 0).val < 6 at h0; change (y 2).val < 128 at h2
  rcases Nat.lt_or_ge (y 1).val (n + 40) with h | h
  · refine mem_cover (s := S6x2560x128) (off := ![(y 0).val, n, 0]) (size := S1x40x128.size) ?_ y fun a => ?_
    · rw [hL]; unfold boxes
      generalize (y 0).val = c at h0 ⊢
      interval_cases c <;> simp
    · match a with
      | ⟨0, _⟩ => exact ⟨le_refl _, by show (y 0).val < (y 0).val + 1; omega⟩
      | ⟨1, _⟩ => exact ⟨hlo, by show (y 1).val < n + 40; omega⟩
      | ⟨2, _⟩ => exact ⟨Nat.zero_le _, by show (y 2).val < 0 + 128; omega⟩
  · refine mem_cover (s := S6x2560x128) (off := ![(y 0).val, n + 40, 0]) (size := S1x40x128.size) ?_ y fun a => ?_
    · rw [hL]; unfold boxes
      generalize (y 0).val = c at h0 ⊢
      interval_cases c <;> simp
    · match a with
      | ⟨0, _⟩ => exact ⟨le_refl _, by show (y 0).val < (y 0).val + 1; omega⟩
      | ⟨1, _⟩ => exact ⟨h, by show (y 1).val < n + 40 + 40; omega⟩
      | ⟨2, _⟩ => exact ⟨Nat.zero_le _, by show (y 2).val < 0 + 128; omega⟩

/-- A row offset, rewritten. -/
theorem row {a n n' : ℕ} {off : Fin 3 → ℕ} (h : off = ![a, n, 0]) (e : n = n') : off = ![a, n', 0] := by rw [h, e]

end Cert.KernelIdeal.Value

end
-- ==== Proof.RunTrip.lean ====
/- One trip of the kernel loop: two groups of four query rows, from the plane of scores to the plane of weights. -/
module

public import proofs.«01_k».proof.Proof.Spec
public import proofs.«01_k».proof.Proof.Gen.KernelIdeal.Frame
public import Idealize.ShloMosaic.Lib.Exec
public import Idealize.ShloMosaic.Lib.Claim
public import proofs.«01_k».proof.Proof.RunPieces

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Spec

variable {F : FTy → Type} [FloatOps F] [Named F]

local notation "𝕄" => MT nD τ sig Unit (Elt F) ℕ (UR sig nD τ) ℕ

/-- What the loop keeps before trip `k`: the first scratch buffer holds the plane of scores `g`, the second the weights
    of the groups done, the third the logits of group `2 k`. -/
def inv (c : Dev nD) (arg7 : Memref sig .tc .vmem S1x40x768 .f32) (arg8 : Memref sig .tc .vmem S168x216 .bf16) (arg9 : Memref sig .tc .vmem S80x224 .bf16)
    (arg11 : Memref sig .tc .vmem S6x4608x128 .f32) (arg12 : Memref sig .tc .vmem S6x2560x128 .f32) (arg13 arg14 : Memref sig .tc .vmem S56x768 .f32)
    (g : Vec F S6x4608x128 .f32) (x5 : Vec F S1x40x768 .f32) (x6 : Vec F S168x216 .bf16) (x7 : Vec F S80x224 .bf16) (k : ℕ) : sProp 𝕄 :=
  iprop(owns (c : Thread nD τ) arg7 fullShare x5 ∗ owns (c : Thread nD τ) arg8 fullShare x6 ∗ owns (c : Thread nD τ) arg9 fullShare x7 ∗ owns (c : Thread nD τ) arg11 fullShare g
    ∗ (∃ p, ⌜∀ y : S6x2560x128.Idx, (y 1).val < 80 * k → p y = weights g x5 x6 x7 y⌝ ∗ owns (c : Thread nD τ) arg12 fullShare p)
    ∗ owns (c : Thread nD τ) arg13 fullShare (logits g x6 ⟨2 * k % 64, Nat.mod_lt _ (by decide)⟩) ∗ (∃ d, owns (c : Thread nD τ) arg14 fullShare d))

set_option maxHeartbeats 1000000 in
/-- One trip. -/
theorem trip (c : Dev nD) (i : grid0.Coords) (arg2 : Memref sig .tc .vmem S1x18x256x160 .fp8e4m3) (harg2 : arg2.IsWhole) (arg3 : Memref sig .tc .vmem S1x18x768x160 .fp8e4m3) (harg3 : arg3.IsWhole) (arg4 : Memref sig .tc .vmem S1x10x768x160 .fp8e4m3) (harg4 : arg4.IsWhole) (arg5 : Memref sig .tc .vmem S1x256x18 .f32) (harg5 : arg5.IsWhole) (arg6 : Memref sig .tc .vmem S1x18x768 .f32) (harg6 : arg6.IsWhole) (arg7 : Memref sig .tc .vmem S1x40x768 .f32) (harg7 : arg7.IsWhole) (arg8 : Memref sig .tc .vmem S168x216 .bf16) (harg8 : arg8.IsWhole) (arg9 : Memref sig .tc .vmem S80x224 .bf16) (harg9 : arg9.IsWhole) (arg10 : Memref sig .tc .vmem S1x256x1600 .bf16) (harg10 : arg10.IsWhole) (arg11 : Memref sig .tc .vmem S6x4608x128 .f32) (harg11 : arg11.IsWhole) (arg12 : Memref sig .tc .vmem S6x2560x128 .f32) (harg12 : arg12.IsWhole) (arg13 : Memref sig .tc .vmem S56x768 .f32) (harg13 : arg13.IsWhole) (arg14 : Memref sig .tc .vmem S56x768 .f32) (harg14 : arg14.IsWhole)
    (g : Vec F S6x4608x128 .f32) (x5 : Vec F S1x40x768 .f32) (x6 : Vec F S168x216 .bf16) (x7 : Vec F S80x224 .bf16)
    (v702 : BitVec 32) (v763 : FVec F S56x256 .f32) (E : Set ℕ) (k : Fin k0_t1_loop.trips) (a : Unit) :
    inv c arg7 arg8 arg9 arg11 arg12 arg13 arg14 g x5 x6 x7 k.val
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 v702 v763 k a)
          (fun _ => inv c arg7 arg8 arg9 arg11 arg12 arg13 arg14 g x5 x6 x7 (k.val + 1)) := by
  have hk : k.val < 31 := Nat.lt_of_lt_of_le k.isLt k0_t1_abs.2.1
  unfold inv k0_t1_body owns
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  iintro ⟨⟨%f7, %hf7, H7⟩, ⟨%f8, %hf8, H8⟩, ⟨%f9, %hf9, H9⟩, ⟨%f11, %hf11, H11⟩, ⟨%p, %hp, %f12, %hf12, H12⟩, ⟨%f13, %hf13, H13⟩, ⟨%d14, %f14, %hf14, H14⟩⟩
  obtain rfl := harg7.eq_unread hf7
  obtain rfl := harg8.eq_unread hf8
  obtain rfl := harg9.eq_unread hf9
  obtain rfl := harg11.eq_unread hf11
  obtain rfl := harg12.eq_unread hf12
  obtain rfl := harg13.eq_unread hf13
  sl_exec
  sl_step
  have hw14 : ∀ f, arg14.view.writes (Elt F) f (trip.sl.H14_3 arg8 harg8 arg11 harg11 g x6 k) = harg14.unread (logits g x6 ⟨2 * k.val + 1, by omega⟩) := by
    refine fun f => harg14.eq_unread (read_writes _ _ _ _ ?_ (cover_logits _ ?_))
    · sl_unfold_run_names
      simp only [List.forall_mem_cons, lst_0, lst_1, lst_2, lst_3, lst_4, lst_5, lst_6, lst_7, lst_8, lst_9, lst_10, wst_0, wst_1, wst_2, wst_3, wst_4, wst_5, wst_6, wst_7, wst_8, wst_9, wst_10, wst_11, wst_12, wst_13, wst_14, wst_15, wst_16, wst_17, wst_18, wst_19, wst_20, wst_21, wst_22, wst_23]
      refine ⟨fun x => st_logits_ld harg11 harg8 g x6 ⟨2 * k.val + 1, by omega⟩ 2 (row (k0_off5_eq k 0) (by show 144 * k.val + 72 * 0 + 72 = 72 * (2 * k.val + 1); omega)) (row (k0_off6_eq k 0) (by show 144 * k.val + 72 * 0 + 72 = 72 * (2 * k.val + 1); omega)) (by rfl) x, ?_⟩
      refine ⟨fun x => st_logits_ld harg11 harg8 g x6 ⟨2 * k.val + 1, by omega⟩ 1 (row (k0_off3_eq k 0) (by show 144 * k.val + 72 * 0 + 72 = 72 * (2 * k.val + 1); omega)) (row (k0_off4_eq k 0) (by show 144 * k.val + 72 * 0 + 72 = 72 * (2 * k.val + 1); omega)) (by rfl) x, ?_⟩
      refine ⟨fun x => st_logits_ld harg11 harg8 g x6 ⟨2 * k.val + 1, by omega⟩ 0 (row (k0_off1_eq k 0) (by show 144 * k.val + 72 * 0 + 72 = 72 * (2 * k.val + 1); omega)) (row (k0_off2_eq k 0) (by show 144 * k.val + 72 * 0 + 72 = 72 * (2 * k.val + 1); omega)) (by rfl) x, ?_⟩
      exact fun p hp => absurd hp List.not_mem_nil
    · sl_unfold_run_names; rfl
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]
  · iexists _; isplitr; · ipureintro; exact hf11
    iexact H11
  isplitl [H12]
  · iexists _; isplitr; swap
    · iexists _; isplitr; swap; · iexact H12
      ipureintro; rfl
    ipureintro
    intro y hy
    refine read_writes_or _ _ _ _ ?_ y ?_
    · revert hw14
      sl_unfold_run_names
      intro hw14
      simp only [List.forall_mem_cons, lst_0, lst_1, lst_2, lst_3, lst_4, lst_5, lst_6, lst_7, lst_8, lst_9, lst_10, wst_0, wst_1, wst_2, wst_3, wst_4, wst_5, wst_6, wst_7, wst_8, wst_9, wst_10, wst_11, wst_12, wst_13, wst_14, wst_15, wst_16, wst_17, wst_18, wst_19, wst_20, wst_21, wst_22, wst_23] at hw14 ⊢
      refine ⟨fun x => st_weights_ld harg14 harg9 harg7 g x5 x6 x7 ⟨2 * k.val + 1, by omega⟩ 2 1 (hw14 _) (by rfl) (by rfl) (row (k0_off18_eq k) (by show 80 * k.val + 40 = 40 * (2 * k.val + 1); omega)) x, ?_⟩
      refine ⟨fun x => st_weights_ld harg14 harg9 harg7 g x5 x6 x7 ⟨2 * k.val + 1, by omega⟩ 2 0 (hw14 _) (by rfl) (by rfl) (row (k0_off17_eq k) (by show 80 * k.val + 40 = 40 * (2 * k.val + 1); omega)) x, ?_⟩
      refine ⟨fun x => st_weights_ld harg14 harg9 harg7 g x5 x6 x7 ⟨2 * k.val + 1, by omega⟩ 1 1 (hw14 _) (by rfl) (by rfl) (row (k0_off16_eq k) (by show 80 * k.val + 40 = 40 * (2 * k.val + 1); omega)) x, ?_⟩
      refine ⟨fun x => st_weights_ld harg14 harg9 harg7 g x5 x6 x7 ⟨2 * k.val + 1, by omega⟩ 1 0 (hw14 _) (by rfl) (by rfl) (row (k0_off15_eq k) (by show 80 * k.val + 40 = 40 * (2 * k.val + 1); omega)) x, ?_⟩
      refine ⟨fun x => st_weights_ld harg14 harg9 harg7 g x5 x6 x7 ⟨2 * k.val + 1, by omega⟩ 0 1 (hw14 _) (by rfl) (by rfl) (row (k0_off14_eq k) (by show 80 * k.val + 40 = 40 * (2 * k.val + 1); omega)) x, ?_⟩
      refine ⟨fun x => st_weights_ld harg14 harg9 harg7 g x5 x6 x7 ⟨2 * k.val + 1, by omega⟩ 0 0 (hw14 _) (by rfl) (by rfl) (row (k0_off13_eq k) (by show 80 * k.val + 40 = 40 * (2 * k.val + 1); omega)) x, ?_⟩
      refine ⟨fun x => st_weights_ld harg13 harg9 harg7 g x5 x6 x7 ⟨2 * k.val % 64, Nat.mod_lt _ (by decide)⟩ 2 1 rfl (by rfl) (by rfl) (row (k0_off12_eq k) (by show 80 * k.val = 40 * (2 * k.val % 64); omega)) x, ?_⟩
      refine ⟨fun x => st_weights_ld harg13 harg9 harg7 g x5 x6 x7 ⟨2 * k.val % 64, Nat.mod_lt _ (by decide)⟩ 2 0 rfl (by rfl) (by rfl) (row (k0_off11_eq k) (by show 80 * k.val = 40 * (2 * k.val % 64); omega)) x, ?_⟩
      refine ⟨fun x => st_weights_ld harg13 harg9 harg7 g x5 x6 x7 ⟨2 * k.val % 64, Nat.mod_lt _ (by decide)⟩ 1 1 rfl (by rfl) (by rfl) (row (k0_off10_eq k) (by show 80 * k.val = 40 * (2 * k.val % 64); omega)) x, ?_⟩
      refine ⟨fun x => st_weights_ld harg13 harg9 harg7 g x5 x6 x7 ⟨2 * k.val % 64, Nat.mod_lt _ (by decide)⟩ 1 0 rfl (by rfl) (by rfl) (row (k0_off9_eq k) (by show 80 * k.val = 40 * (2 * k.val % 64); omega)) x, ?_⟩
      refine ⟨fun x => st_weights_ld harg13 harg9 harg7 g x5 x6 x7 ⟨2 * k.val % 64, Nat.mod_lt _ (by decide)⟩ 0 1 rfl (by rfl) (by rfl) (row (k0_off8_eq k) (by show 80 * k.val = 40 * (2 * k.val % 64); omega)) x, ?_⟩
      refine ⟨fun x => st_weights_ld harg13 harg9 harg7 g x5 x6 x7 ⟨2 * k.val % 64, Nat.mod_lt _ (by decide)⟩ 0 0 rfl (by rfl) (by rfl) (row (k0_off7_eq k) (by show 80 * k.val = 40 * (2 * k.val % 64); omega)) x, ?_⟩
      exact fun p hp => absurd hp List.not_mem_nil
    · rcases Nat.lt_or_ge (y 1).val (80 * k.val) with h | h
      · exact .inr ((congrFun hf12 y).trans (hp y h))
      · refine .inl (cover_weights (80 * k.val) _ ?_ y h (by omega))
        sl_unfold_run_names
        simp only [List.map, box, k0_off7_eq, k0_off8_eq, k0_off9_eq, k0_off10_eq, k0_off11_eq, k0_off12_eq, k0_off13_eq, k0_off14_eq, k0_off15_eq, k0_off16_eq, k0_off17_eq, k0_off18_eq, Rect.off_unit, Rect.size_unit, Rect.stride_unit]
        rfl
  isplitl [H13]
  · iexists _; isplitr; swap; · iexact H13
    ipureintro
    refine read_writes _ _ _ _ ?_ (cover_logits _ ?_)
    · sl_unfold_run_names
      simp only [List.forall_mem_cons, lst_0, lst_1, lst_2, lst_3, lst_4, lst_5, lst_6, lst_7, lst_8, lst_9, lst_10, wst_0, wst_1, wst_2, wst_3, wst_4, wst_5, wst_6, wst_7, wst_8, wst_9, wst_10, wst_11, wst_12, wst_13, wst_14, wst_15, wst_16, wst_17, wst_18, wst_19, wst_20, wst_21, wst_22, wst_23]
      refine ⟨fun x => st_logits_ld harg11 harg8 g x6 ⟨2 * (k.val + 1) % 64, Nat.mod_lt _ (by decide)⟩ 2 (row (k0_off5_eq k 1) (by show 144 * k.val + 72 * 1 + 72 = 72 * (2 * (k.val + 1) % 64); omega)) (row (k0_off6_eq k 1) (by show 144 * k.val + 72 * 1 + 72 = 72 * (2 * (k.val + 1) % 64); omega)) (by rfl) x, ?_⟩
      refine ⟨fun x => st_logits_ld harg11 harg8 g x6 ⟨2 * (k.val + 1) % 64, Nat.mod_lt _ (by decide)⟩ 1 (row (k0_off3_eq k 1) (by show 144 * k.val + 72 * 1 + 72 = 72 * (2 * (k.val + 1) % 64); omega)) (row (k0_off4_eq k 1) (by show 144 * k.val + 72 * 1 + 72 = 72 * (2 * (k.val + 1) % 64); omega)) (by rfl) x, ?_⟩
      refine ⟨fun x => st_logits_ld harg11 harg8 g x6 ⟨2 * (k.val + 1) % 64, Nat.mod_lt _ (by decide)⟩ 0 (row (k0_off1_eq k 1) (by show 144 * k.val + 72 * 1 + 72 = 72 * (2 * (k.val + 1) % 64); omega)) (row (k0_off2_eq k 1) (by show 144 * k.val + 72 * 1 + 72 = 72 * (2 * (k.val + 1) % 64); omega)) (by rfl) x, ?_⟩
      exact fun p hp => absurd hp List.not_mem_nil
    · sl_unfold_run_names; rfl
  iexists _, _; isplitr; swap; · iexact H14
  ipureintro; rfl

end Cert.KernelIdeal.Value

end
-- ==== Proof.RunWeights.lean ====
/- The second phase of the kernel body: from the plane of scores to the plane of weights. -/
module

public import proofs.«01_k».proof.Proof.Spec
public import proofs.«01_k».proof.Proof.Gen.KernelIdeal.Frame
public import Idealize.ShloMosaic.Lib.Exec
public import Idealize.ShloMosaic.Lib.Claim
public import proofs.«01_k».proof.Proof.RunTrip

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Spec

variable {F : FTy → Type} [FloatOps F] [Named F]

local notation "𝕄" => MT nD τ sig Unit (Elt F) ℕ (UR sig nD τ) ℕ

/-- The body from the output of the first value head on. -/
def afterWeights (i : grid0.Coords) (arg2 : Memref sig .tc .vmem S1x18x256x160 .fp8e4m3) (harg2 : arg2.IsWhole) (arg3 : Memref sig .tc .vmem S1x18x768x160 .fp8e4m3) (harg3 : arg3.IsWhole) (arg4 : Memref sig .tc .vmem S1x10x768x160 .fp8e4m3) (harg4 : arg4.IsWhole) (arg5 : Memref sig .tc .vmem S1x256x18 .f32) (harg5 : arg5.IsWhole) (arg6 : Memref sig .tc .vmem S1x18x768 .f32) (harg6 : arg6.IsWhole) (arg7 : Memref sig .tc .vmem S1x40x768 .f32) (harg7 : arg7.IsWhole) (arg8 : Memref sig .tc .vmem S168x216 .bf16) (harg8 : arg8.IsWhole) (arg9 : Memref sig .tc .vmem S80x224 .bf16) (harg9 : arg9.IsWhole) (arg10 : Memref sig .tc .vmem S1x256x1600 .bf16) (harg10 : arg10.IsWhole) (arg11 : Memref sig .tc .vmem S6x4608x128 .f32) (harg11 : arg11.IsWhole) (arg12 : Memref sig .tc .vmem S6x2560x128 .f32) (harg12 : arg12.IsWhole) (arg13 : Memref sig .tc .vmem S56x768 .f32) (harg13 : arg13.IsWhole) (arg14 : Memref sig .tc .vmem S56x768 .f32) (harg14 : arg14.IsWhole) (v1127 : Vec F S1x256x128 .f32) :
    Prog (TpuEff nD τ sig (Elt F) Λ₀ .tc) PUnit := do
  let ⟨v1150, v1152, v1154⟩ : Σ' (v1150 : FVec F S256x128 .f32) (v1152 : FVec F S256x128 .f32), FVec F S256x128 .f32 ← k0_part43_skel i arg2 harg2 arg3 harg3 arg4 harg4 arg5 harg5 arg6 harg6 arg7 harg7 arg8 harg8 arg9 harg9 arg10 harg10 arg11 harg11 arg12 harg12 arg13 harg13 arg14 harg14 v1127
  let ⟨v1172, v1174, v1176, v1178, v1180⟩ : Σ' (v1172 : FVec F S256x128 .f32) (v1174 : FVec F S256x128 .f32) (v1176 : FVec F S256x128 .f32) (v1178 : FVec F S256x128 .f32), FVec F S256x128 .f32 ← k0_part44_skel i arg2 harg2 arg3 harg3 arg4 harg4 arg5 harg5 arg6 harg6 arg7 harg7 arg8 harg8 arg9 harg9 arg10 harg10 arg11 harg11 arg12 harg12 arg13 harg13 arg14 harg14 v1150 v1152 v1154
  let ⟨v1206, v1207⟩ : Σ' (v1206 : FVec F S256x768 .bf16), Vec F S1x1x768x160 .fp8e4m3 ← k0_part45_skel i arg2 harg2 arg3 harg3 arg4 harg4 arg5 harg5 arg6 harg6 arg7 harg7 arg8 harg8 arg9 harg9 arg10 harg10 arg11 harg11 arg12 harg12 arg13 harg13 arg14 harg14 v1172 v1174 v1176 v1178 v1180
  let v1236 : FVec F S1x256x160 .bf16 ← k0_part46_skel i arg2 harg2 arg3 harg3 arg4 harg4 arg5 harg5 arg6 harg6 arg7 harg7 arg8 harg8 arg9 harg9 arg10 harg10 arg11 harg11 arg12 harg12 arg13 harg13 arg14 harg14 v1206 v1207
  let ⟨v1260, v1262⟩ : Σ' (v1260 : FVec F S256x128 .f32), FVec F S256x128 .f32 ← k0_part47_skel i arg2 harg2 arg3 harg3 arg4 harg4 arg5 harg5 arg6 harg6 arg7 harg7 arg8 harg8 arg9 harg9 arg10 harg10 arg11 harg11 arg12 harg12 arg13 harg13 arg14 harg14 v1236
  let ⟨v1282, v1284, v1286, v1288⟩ : Σ' (v1282 : FVec F S256x128 .f32) (v1284 : FVec F S256x128 .f32) (v1286 : FVec F S256x128 .f32), FVec F S256x128 .f32 ← k0_part48_skel i arg2 harg2 arg3 harg3 arg4 harg4 arg5 harg5 arg6 harg6 arg7 harg7 arg8 harg8 arg9 harg9 arg10 harg10 arg11 harg11 arg12 harg12 arg13 harg13 arg14 harg14 v1260 v1262
  let v1316 : FVec F S256x768 .bf16 ← k0_part49_skel i arg2 harg2 arg3 harg3 arg4 harg4 arg5 harg5 arg6 harg6 arg7 harg7 arg8 harg8 arg9 harg9 arg10 harg10 arg11 harg11 arg12 harg12 arg13 harg13 arg14 harg14 v1282 v1284 v1286 v1288
  let v1343 : FVec F S256x160 .bf16 ← k0_part50_skel i arg2 harg2 arg3 harg3 arg4 harg4 arg5 harg5 arg6 harg6 arg7 harg7 arg8 harg8 arg9 harg9 arg10 harg10 arg11 harg11 arg12 harg12 arg13 harg13 arg14 harg14 v1316
  let v1344 : Vec F S1x256x160 .bf16 ← Prog.lift (.load arg10 (Rect.unit (s := S1x256x1600) ![0, 0, 1440] S1x256x160.size inb_S1x256x1600_S1x256x160_0_0_1440).toLoadRect (View.loadsAt_vmem h_S1x256x160))
  Prog.lift (.store arg10 (Rect.unit (s := S1x256x1600) ![0, 0, 1440] S1x256x160.size inb_S1x256x1600_S1x256x160_0_0_1440) (k0_pay1 v1343) Finset.univ (View.stores_vmem h_S1x256x160 (harg10.storeExact_slice rfl _ packedbf16_S1x256x1600_S1x256x160_0_0_1440) (fun _ => rfl)) (.inl rfl))
  pure ⟨⟩

theorem trips_eq : k0_t1_loop.trips = 31 := by decide

set_option maxHeartbeats 1000000 in
/-- The second phase. -/
theorem runC (c : Dev nD) (i : grid0.Coords) (arg2 : Memref sig .tc .vmem S1x18x256x160 .fp8e4m3) (harg2 : arg2.IsWhole) (arg3 : Memref sig .tc .vmem S1x18x768x160 .fp8e4m3) (harg3 : arg3.IsWhole) (arg4 : Memref sig .tc .vmem S1x10x768x160 .fp8e4m3) (harg4 : arg4.IsWhole) (arg5 : Memref sig .tc .vmem S1x256x18 .f32) (harg5 : arg5.IsWhole) (arg6 : Memref sig .tc .vmem S1x18x768 .f32) (harg6 : arg6.IsWhole) (arg7 : Memref sig .tc .vmem S1x40x768 .f32) (harg7 : arg7.IsWhole) (arg8 : Memref sig .tc .vmem S168x216 .bf16) (harg8 : arg8.IsWhole) (arg9 : Memref sig .tc .vmem S80x224 .bf16) (harg9 : arg9.IsWhole) (arg10 : Memref sig .tc .vmem S1x256x1600 .bf16) (harg10 : arg10.IsWhole) (arg11 : Memref sig .tc .vmem S6x4608x128 .f32) (harg11 : arg11.IsWhole) (arg12 : Memref sig .tc .vmem S6x2560x128 .f32) (harg12 : arg12.IsWhole) (arg13 : Memref sig .tc .vmem S56x768 .f32) (harg13 : arg13.IsWhole) (arg14 : Memref sig .tc .vmem S56x768 .f32) (harg14 : arg14.IsWhole) (g : Vec F S6x4608x128 .f32)
    (x0 : Vec F S1x18x256x160 .fp8e4m3) (x1 : Vec F S1x18x768x160 .fp8e4m3) (x2 : Vec F S1x10x768x160 .fp8e4m3) (x3 : Vec F S1x256x18 .f32) (x4 : Vec F S1x18x768 .f32) (x5 : Vec F S1x40x768 .f32) (x6 : Vec F S168x216 .bf16) (x7 : Vec F S80x224 .bf16) (R : sProp 𝕄) (E : Set ℕ) (K : PUnit → sProp 𝕄)
    (h : ∀ v1127, v1127 = prow (weights g x5 x6 x7) 0 0 →
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare g ∗ owns (c : Thread nD τ) arg12 fullShare (weights g x5 x6 x7) ∗ (∃ d, owns (c : Thread nD τ) arg13 fullShare d) ∗ (∃ d, owns (c : Thread nD τ) arg14 fullShare d) ∗ R)
        ⊢ wp frame (wpE (defs₀ (F := F)) Variants.none c none) E (afterWeights i arg2 harg2 arg3 harg3 arg4 harg4 arg5 harg5 arg6 harg6 arg7 harg7 arg8 harg8 arg9 harg9 arg10 harg10 arg11 harg11 arg12 harg12 arg13 harg13 arg14 harg14 v1127) K) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare g ∗ (∃ d, owns (c : Thread nD τ) arg12 fullShare d) ∗ (∃ d, owns (c : Thread nD τ) arg13 fullShare d) ∗ (∃ d, owns (c : Thread nD τ) arg14 fullShare d) ∗ R)
      ⊢ wp frame (wpE (defs₀ (F := F)) Variants.none c none) E (afterScores i arg2 harg2 arg3 harg3 arg4 harg4 arg5 harg5 arg6 harg6 arg7 harg7 arg8 harg8 arg9 harg9 arg10 harg10 arg11 harg11 arg12 harg12 arg13 harg13 arg14 harg14 0#32 (k0_pay184 (slab g 0 0) (slab g 0 1)) (k0_pay185 (slab g 0 0) (slab g 0 1))) K := by
  unfold afterScores
  unfold afterWeights at h
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%f11, %hf11, H11⟩, ⟨%d12, %f12, %hf12, H12⟩, ⟨%d13, %f13, %hf13, H13⟩, ⟨%d14, %f14, %hf14, H14⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg11.eq_unread hf11
  sl_exec
  have hw13 : ∀ f, arg13.view.writes (Elt F) f (runC.sl.H13_3 c arg8 harg8 arg11 harg11 g x6) = harg13.unread (logits g x6 ⟨2 * 0 % 64, Nat.mod_lt _ (by decide)⟩) := by
    clear h
    refine fun f => harg13.eq_unread (read_writes _ _ _ _ ?_ (cover_logits _ ?_))
    · sl_unfold_run_names
      simp only [List.forall_mem_cons, lst_0, lst_1, lst_2, lst_3, lst_4, lst_5, lst_6, lst_7, lst_8, lst_9, lst_10]
      refine ⟨fun x => st_logits_ld harg11 harg8 g x6 ⟨2 * 0 % 64, Nat.mod_lt _ (by decide)⟩ 2 (by rfl) (by rfl) (by rfl) x, ?_⟩
      refine ⟨fun x => st_logits_ld harg11 harg8 g x6 ⟨2 * 0 % 64, Nat.mod_lt _ (by decide)⟩ 1 (by rfl) (by rfl) (by rfl) x, ?_⟩
      refine ⟨fun x => ?_, ?_⟩
      · rw [ld_whole harg8 x6 ![0, 0] (by funext a; match a with | ⟨0, _⟩ => rfl | ⟨1, _⟩ => rfl)]
        exact st_logits g x6 ⟨2 * 0 % 64, Nat.mod_lt _ (by decide)⟩ 0 _ (by rfl) _ x
      exact fun p hp => absurd hp List.not_mem_nil
    · sl_unfold_run_names; rfl
  sl_for (fun k (_ : Unit) => inv c arg7 arg8 arg9 arg11 arg12 arg13 arg14 g x5 x6 x7 k) $$ [H7 H8 H9 H11 H12 H13 H14]
  case region => intro k a; exact trip c i arg2 harg2 arg3 harg3 arg4 harg4 arg5 harg5 arg6 harg6 arg7 harg7 arg8 harg8 arg9 harg9 arg10 harg10 arg11 harg11 arg12 harg12 arg13 harg13 arg14 harg14 g x5 x6 x7 _ _ _ k a
  · unfold inv owns
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H11]
    · iexists _; isplitr; · ipureintro; exact hf11
      iexact H11
    isplitl [H12]
    · iexists _; isplitr; swap
      · iexists _; isplitr; swap; · iexact H12
        ipureintro; exact hf12
      ipureintro; intro y hy; exact absurd hy (by omega)
    isplitl [H13]
    · iexists _; isplitr; swap; · iexact H13
      ipureintro; exact (congrArg _ (hw13 _)).trans (harg13.read_unread _)
    iexists _, _; isplitr; swap; · iexact H14
    ipureintro; exact hf14
  iintro %a HI
  unfold inv owns
  icases HI with ⟨⟨%e7, %he7, H7⟩, ⟨%e8, %he8, H8⟩, ⟨%e9, %he9, H9⟩, ⟨%e11, %he11, H11⟩, ⟨%p, %hp, %e12, %he12, H12⟩, ⟨%e13, %he13, H13⟩, ⟨%d14', %e14, %he14, H14⟩⟩
  obtain rfl := harg7.eq_unread he7
  obtain rfl := harg8.eq_unread he8
  obtain rfl := harg9.eq_unread he9
  obtain rfl := harg11.eq_unread he11
  obtain rfl := harg12.eq_unread he12
  replace hp : ∀ y : S6x2560x128.Idx, (y 1).val < 80 * 31 → p y = weights g x5 x6 x7 y := fun y hy => hp y (Nat.lt_of_lt_of_eq hy (congrArg (80 * ·) trips_eq.symm))
  replace he13 : _ = logits g x6 ⟨62, by decide⟩ := he13.trans (congrArg (logits g x6) (Fin.ext (by show 2 * k0_t1_loop.trips % 64 = 62; rw [trips_eq])))
  obtain rfl := harg13.eq_unread he13
  set_option sl_exec.stopBefore "k0_part43" in sl_exec
  have hw14 : ∀ f, arg14.view.writes (Elt F) f (runC.sl.H14_3 c arg8 harg8 arg11 harg11 g x6) = harg14.unread (logits g x6 ⟨63, by decide⟩) := by
    clear h
    refine fun f => harg14.eq_unread (read_writes _ _ _ _ ?_ (cover_logits _ ?_))
    · sl_unfold_run_names
      simp only [List.forall_mem_cons, lst_0, lst_1, lst_2, lst_3, lst_4, lst_5, lst_6, lst_7, lst_8, lst_9, lst_10]
      refine ⟨fun x => st_logits_ld harg11 harg8 g x6 ⟨63, by decide⟩ 2 (by rfl) (by rfl) (by rfl) x, ?_⟩
      refine ⟨fun x => st_logits_ld harg11 harg8 g x6 ⟨63, by decide⟩ 1 (by rfl) (by rfl) (by rfl) x, ?_⟩
      refine ⟨fun x => st_logits_ld harg11 harg8 g x6 ⟨63, by decide⟩ 0 (by rfl) (by rfl) (by rfl) x, ?_⟩
      exact fun p hp => absurd hp List.not_mem_nil
    · sl_unfold_run_names; rfl
  have hw12 : arg12.view.writes (Elt F) (harg12.unread p) (runC.sl.H12_12 c arg7 harg7 arg8 harg8 arg9 harg9 arg11 harg11 arg13 harg13 arg14 g x5 x6 x7) = harg12.unread (weights g x5 x6 x7) := by
    clear h
    refine harg12.eq_unread (funext fun y => read_writes_or _ _ _ _ ?_ y ?_)
    · revert hw14
      sl_unfold_run_names
      intro hw14
      simp only [List.forall_mem_cons, lst_0, lst_1, lst_2, lst_3, lst_4, lst_5, lst_6, lst_7, lst_8, lst_9, lst_10, wst_12, wst_13, wst_14, wst_15, wst_16, wst_17, wst_18, wst_19, wst_20, wst_21, wst_22, wst_23] at hw14 ⊢
      refine ⟨fun x => st_weights_ld harg14 harg9 harg7 g x5 x6 x7 ⟨63, by decide⟩ 2 1 (hw14 _) (by rfl) (by rfl) (by rfl) x, ?_⟩
      refine ⟨fun x => st_weights_ld harg14 harg9 harg7 g x5 x6 x7 ⟨63, by decide⟩ 2 0 (hw14 _) (by rfl) (by rfl) (by rfl) x, ?_⟩
      refine ⟨fun x => st_weights_ld harg14 harg9 harg7 g x5 x6 x7 ⟨63, by decide⟩ 1 1 (hw14 _) (by rfl) (by rfl) (by rfl) x, ?_⟩
      refine ⟨fun x => st_weights_ld harg14 harg9 harg7 g x5 x6 x7 ⟨63, by decide⟩ 1 0 (hw14 _) (by rfl) (by rfl) (by rfl) x, ?_⟩
      refine ⟨fun x => st_weights_ld harg14 harg9 harg7 g x5 x6 x7 ⟨63, by decide⟩ 0 1 (hw14 _) (by rfl) (by rfl) (by rfl) x, ?_⟩
      refine ⟨fun x => st_weights_ld harg14 harg9 harg7 g x5 x6 x7 ⟨63, by decide⟩ 0 0 (hw14 _) (by rfl) (by rfl) (by rfl) x, ?_⟩
      refine ⟨fun x => st_weights_ld harg13 harg9 harg7 g x5 x6 x7 ⟨62, by decide⟩ 2 1 rfl (by rfl) (by rfl) (by rfl) x, ?_⟩
      refine ⟨fun x => st_weights_ld harg13 harg9 harg7 g x5 x6 x7 ⟨62, by decide⟩ 2 0 rfl (by rfl) (by rfl) (by rfl) x, ?_⟩
      refine ⟨fun x => st_weights_ld harg13 harg9 harg7 g x5 x6 x7 ⟨62, by decide⟩ 1 1 rfl (by rfl) (by rfl) (by rfl) x, ?_⟩
      refine ⟨fun x => st_weights_ld harg13 harg9 harg7 g x5 x6 x7 ⟨62, by decide⟩ 1 0 rfl (by rfl) (by rfl) (by rfl) x, ?_⟩
      refine ⟨fun x => st_weights_ld harg13 harg9 harg7 g x5 x6 x7 ⟨62, by decide⟩ 0 1 rfl (by rfl) (by rfl) (by rfl) x, ?_⟩
      refine ⟨fun x => st_weights_ld harg13 harg9 harg7 g x5 x6 x7 ⟨62, by decide⟩ 0 0 rfl (by rfl) (by rfl) (by rfl) x, ?_⟩
      exact fun p hp => absurd hp List.not_mem_nil
    · have hy := (y 1).isLt
      change (y 1).val < 2560 at hy
      rcases Nat.lt_or_ge (y 1).val (80 * 31) with h | h
      · exact .inr ((congrFun he12 y).trans (hp y h))
      · refine .inl (cover_weights 2480 _ ?_ y h (by omega))
        sl_unfold_run_names
        rfl
  iapply (h _ ?e1)
  case e1 =>
    clear h
    show View.readAt (Elt F) arg12.view (⟨![0, 0, 0], S1x256x128.size, ![1, 10, 1], inb_S6x2560x128_S1x256x128_0_0_0_s_1_10_1⟩ : LoadRect S6x2560x128)
        (arg12.view.writes (Elt F) (harg12.unread p) (runC.sl.H12_12 c arg7 harg7 arg8 harg8 arg9 harg9 arg11 harg11 arg13 harg13 arg14 g x5 x6 x7)) = _
    rw [hw12, ld_prow harg12 _ 0 0 ![0, 0, 0] rfl]
  clear h
  unfold owns
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _; isplitr; · ipureintro; exact harg11.read_unread _
    iexact H11
  isplitl [H12]
  · iexists _; isplitr; swap; · iexact H12
    ipureintro; rw [hw12]; exact harg12.read_unread _
  isplitl [H13]
  · iexists _, _; isplitr; swap; · iexact H13
    ipureintro; rfl
  isplitl [H14]
  · iexists _, _; isplitr; swap; · iexact H14
    ipureintro; rfl
  iexact Hk

end Cert.KernelIdeal.Value

end
-- ==== Proof.RunBody.lean ====
/- The third phase of the kernel body: from the plane of weights to the output block; and the body as a whole. -/
module

public import proofs.«01_k».proof.Proof.Spec
public import proofs.«01_k».proof.Proof.Gen.KernelIdeal.Frame
public import Idealize.ShloMosaic.Lib.Exec
public import Idealize.ShloMosaic.Lib.Claim
public import proofs.«01_k».proof.Proof.RunWeights

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Spec

variable {F : FTy → Type} [FloatOps F] [Named F]

local notation "𝕄" => MT nD τ sig Unit (Elt F) ℕ (UR sig nD τ) ℕ

/-! Every value head is computed by the same function of what is loaded. -/

theorem hst_0 (a b d e f g : Vec F S1x256x128 .f32) (v : Vec F S1x1x768x160 .fp8e4m3) : k0_pay226 (k0_pay223 a) (k0_pay224 b) (k0_pay225 d) e f g v = k0_pay222 a b d e f g v := rfl
theorem hst_1 (a b d e f g : Vec F S1x256x128 .f32) (v : Vec F S1x1x768x160 .fp8e4m3) : k0_pay232 (k0_pay227 a) (k0_pay228 b) (k0_pay229 d) (k0_pay230 e) (k0_pay231 f) g v = k0_pay222 a b d e f g v := rfl
theorem hst_2 (a b d e f g : Vec F S1x256x128 .f32) (v : Vec F S1x1x768x160 .fp8e4m3) : k0_pay234 (k0_pay233 a b d e f g) v = k0_pay222 a b d e f g v := rfl
theorem hst_3 (a b d e f g : Vec F S1x256x128 .f32) (v : Vec F S1x1x768x160 .fp8e4m3) : k0_pay235 a b d e f g v = k0_pay222 a b d e f g v := rfl
theorem hst_4 (a b d e f g : Vec F S1x256x128 .f32) (v : Vec F S1x1x768x160 .fp8e4m3) : k0_pay236 a b d e f g v = k0_pay222 a b d e f g v := rfl
theorem hst_5 (a b d e f g : Vec F S1x256x128 .f32) (v : Vec F S1x1x768x160 .fp8e4m3) : k0_pay239 (k0_pay237 a) (k0_pay238 b) d e f g v = k0_pay222 a b d e f g v := rfl
theorem hst_6 (a b d e f g : Vec F S1x256x128 .f32) (v : Vec F S1x1x768x160 .fp8e4m3) : k0_pay244 (k0_pay240 a) (k0_pay241 b) (k0_pay242 d) (k0_pay243 e) f g v = k0_pay222 a b d e f g v := rfl
theorem hst_7 (a b d e f g : Vec F S1x256x128 .f32) (v : Vec F S1x1x768x160 .fp8e4m3) : k0_pay246 (k0_pay245 a b d e f g) v = k0_pay222 a b d e f g v := rfl
theorem hst_8 (a b d e f g : Vec F S1x256x128 .f32) (v : Vec F S1x1x768x160 .fp8e4m3) : k0_pay1 (k0_pay247 a b d e f g v) = k0_pay222 a b d e f g v := rfl

/-- What the store of one value head leaves, its payload read off the loads of the plane of weights. -/
theorem st_out_ld {arg12 : Memref sig .tc .vmem S6x2560x128 .f32} (harg12 : arg12.IsWhole) {arg4 : Memref sig .tc .vmem S1x10x768x160 .fp8e4m3} (harg4 : arg4.IsWhole)
    (p : Vec F S6x2560x128 .f32) (x2 : Vec F S1x10x768x160 .fp8e4m3) (r : Fin 10) {o0 o1 o2 o3 o4 o5 : Fin 3 → ℕ} {ov : Fin 4 → ℕ} {off : Fin 3 → ℕ}
    (h0 : o0 = ![0, r.val, 0]) (h1 : o1 = ![1, r.val, 0]) (h2 : o2 = ![2, r.val, 0]) (h3 : o3 = ![3, r.val, 0]) (h4 : o4 = ![4, r.val, 0]) (h5 : o5 = ![5, r.val, 0]) (hv : ov = ![0, r.val, 0, 0]) (ho : off = ![0, 0, 160 * r.val])
    {i0 i1 i2 i3 i4 i5 iv inb} (x : S1x256x160.Idx) :
    k0_pay222 (View.readAt (Elt F) arg12.view (⟨o0, S1x256x128.size, ![1, 10, 1], i0⟩ : LoadRect S6x2560x128) (harg12.unread p)) (View.readAt (Elt F) arg12.view (⟨o1, S1x256x128.size, ![1, 10, 1], i1⟩ : LoadRect S6x2560x128) (harg12.unread p)) (View.readAt (Elt F) arg12.view (⟨o2, S1x256x128.size, ![1, 10, 1], i2⟩ : LoadRect S6x2560x128) (harg12.unread p)) (View.readAt (Elt F) arg12.view (⟨o3, S1x256x128.size, ![1, 10, 1], i3⟩ : LoadRect S6x2560x128) (harg12.unread p)) (View.readAt (Elt F) arg12.view (⟨o4, S1x256x128.size, ![1, 10, 1], i4⟩ : LoadRect S6x2560x128) (harg12.unread p)) (View.readAt (Elt F) arg12.view (⟨o5, S1x256x128.size, ![1, 10, 1], i5⟩ : LoadRect S6x2560x128) (harg12.unread p))
        (View.readAt (Elt F) arg4.view (Rect.unit (s := S1x10x768x160) ov S1x1x768x160.size iv).toLoadRect (harg4.unread x2)) x
      = outp p x2 ((Rect.unit (s := S1x256x1600) off S1x256x160.size inb).emb x) := by
  rw [ld_prow harg12 p r 0 o0 h0, ld_prow harg12 p r 1 o1 h1, ld_prow harg12 p r 2 o2 h2, ld_prow harg12 p r 3 o3 h3, ld_prow harg12 p r 4 o4 h4, ld_prow harg12 p r 5 o5 h5, ld_vh harg4 x2 r ov hv]
  exact st_out p x2 r off ho inb x

/-- Ten stores of 160 columns cover the output block. -/
theorem cover_out (L : List ((r : Rect S1x256x1600) × (r.shape.Idx → Elt F .bf16)))
    (hL : L.map box = (List.range 10).reverse.map fun r => ((![0, 0, 160 * r] : Fin 3 → ℕ), S1x256x160.size, fun _ => 1)) (y : S1x256x1600.Idx) :
    ∃ p ∈ L, y ∈ p.1.set := by
  have h0 := (y 0).isLt; have h1 := (y 1).isLt; have h2 := (y 2).isLt
  change (y 0).val < 1 at h0; change (y 1).val < 256 at h1; change (y 2).val < 1600 at h2
  refine mem_cover (s := S1x256x1600) (off := ![0, 0, 160 * ((y 2).val / 160)]) (size := S1x256x160.size) ?_ y fun a => ?_
  · rw [hL]
    exact List.mem_map.2 ⟨(y 2).val / 160, List.mem_reverse.2 (List.mem_range.2 (by omega)), rfl⟩
  · match a with
    | ⟨0, _⟩ => exact ⟨Nat.zero_le _, by show (y 0).val < 0 + 1; omega⟩
    | ⟨1, _⟩ => exact ⟨Nat.zero_le _, by show (y 1).val < 0 + 256; omega⟩
    | ⟨2, _⟩ => exact ⟨by show 160 * ((y 2).val / 160) ≤ (y 2).val; omega, by show (y 2).val < 160 * ((y 2).val / 160) + 160; omega⟩

set_option maxHeartbeats 1000000 in
/-- The third phase. -/
theorem runD (c : Dev nD) (i : grid0.Coords) (arg2 : Memref sig .tc .vmem S1x18x256x160 .fp8e4m3) (harg2 : arg2.IsWhole) (arg3 : Memref sig .tc .vmem S1x18x768x160 .fp8e4m3) (harg3 : arg3.IsWhole) (arg4 : Memref sig .tc .vmem S1x10x768x160 .fp8e4m3) (harg4 : arg4.IsWhole) (arg5 : Memref sig .tc .vmem S1x256x18 .f32) (harg5 : arg5.IsWhole) (arg6 : Memref sig .tc .vmem S1x18x768 .f32) (harg6 : arg6.IsWhole) (arg7 : Memref sig .tc .vmem S1x40x768 .f32) (harg7 : arg7.IsWhole) (arg8 : Memref sig .tc .vmem S168x216 .bf16) (harg8 : arg8.IsWhole) (arg9 : Memref sig .tc .vmem S80x224 .bf16) (harg9 : arg9.IsWhole) (arg10 : Memref sig .tc .vmem S1x256x1600 .bf16) (harg10 : arg10.IsWhole) (arg11 : Memref sig .tc .vmem S6x4608x128 .f32) (harg11 : arg11.IsWhole) (arg12 : Memref sig .tc .vmem S6x2560x128 .f32) (harg12 : arg12.IsWhole) (arg13 : Memref sig .tc .vmem S56x768 .f32) (harg13 : arg13.IsWhole) (arg14 : Memref sig .tc .vmem S56x768 .f32) (harg14 : arg14.IsWhole) (g : Vec F S6x4608x128 .f32) (p : Vec F S6x2560x128 .f32)
    (x0 : Vec F S1x18x256x160 .fp8e4m3) (x1 : Vec F S1x18x768x160 .fp8e4m3) (x2 : Vec F S1x10x768x160 .fp8e4m3) (x3 : Vec F S1x256x18 .f32) (x4 : Vec F S1x18x768 .f32) (x5 : Vec F S1x40x768 .f32) (x6 : Vec F S168x216 .bf16) (x7 : Vec F S80x224 .bf16) (R : sProp 𝕄) (E : Set ℕ) (K : PUnit → sProp 𝕄)
    (h : iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outp p x2) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ R) ⊢ K ⟨⟩) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare g ∗ owns (c : Thread nD τ) arg12 fullShare p ∗ (∃ d, owns (c : Thread nD τ) arg13 fullShare d) ∗ (∃ d, owns (c : Thread nD τ) arg14 fullShare d) ∗ R)
      ⊢ wp frame (wpE (defs₀ (F := F)) Variants.none c none) E (afterWeights i arg2 harg2 arg3 harg3 arg4 harg4 arg5 harg5 arg6 harg6 arg7 harg7 arg8 harg8 arg9 harg9 arg10 harg10 arg11 harg11 arg12 harg12 arg13 harg13 arg14 harg14 (prow p 0 0)) K := by
  unfold afterWeights
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%f11, %hf11, H11⟩, ⟨%f12, %hf12, H12⟩, ⟨%d13, %f13, %hf13, H13⟩, ⟨%d14, %f14, %hf14, H14⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg11.eq_unread hf11
  obtain rfl := harg12.eq_unread hf12
  sl_exec
  sl_step
  iapply h
  clear h
  unfold owns
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    refine read_writes _ _ _ _ ?_ (cover_out _ ?_)
    · sl_unfold_run_names
      simp only [List.forall_mem_cons, hst_0, hst_1, hst_2, hst_3, hst_4, hst_5, hst_6, hst_7, hst_8]
      refine ⟨fun x => st_out_ld harg12 harg4 p x2 9 (by rfl) (by rfl) (by rfl) (by rfl) (by rfl) (by rfl) (by rfl) (by rfl) x, ?_⟩
      refine ⟨fun x => st_out_ld harg12 harg4 p x2 8 (by rfl) (by rfl) (by rfl) (by rfl) (by rfl) (by rfl) (by rfl) (by rfl) x, ?_⟩
      refine ⟨fun x => st_out_ld harg12 harg4 p x2 7 (by rfl) (by rfl) (by rfl) (by rfl) (by rfl) (by rfl) (by rfl) (by rfl) x, ?_⟩
      refine ⟨fun x => st_out_ld harg12 harg4 p x2 6 (by rfl) (by rfl) (by rfl) (by rfl) (by rfl) (by rfl) (by rfl) (by rfl) x, ?_⟩
      refine ⟨fun x => st_out_ld harg12 harg4 p x2 5 (by rfl) (by rfl) (by rfl) (by rfl) (by rfl) (by rfl) (by rfl) (by rfl) x, ?_⟩
      refine ⟨fun x => st_out_ld harg12 harg4 p x2 4 (by rfl) (by rfl) (by rfl) (by rfl) (by rfl) (by rfl) (by rfl) (by rfl) x, ?_⟩
      refine ⟨fun x => st_out_ld harg12 harg4 p x2 3 (by rfl) (by rfl) (by rfl) (by rfl) (by rfl) (by rfl) (by rfl) (by rfl) x, ?_⟩
      refine ⟨fun x => st_out_ld harg12 harg4 p x2 2 (by rfl) (by rfl) (by rfl) (by rfl) (by rfl) (by rfl) (by rfl) (by rfl) x, ?_⟩
      refine ⟨fun x => st_out_ld harg12 harg4 p x2 1 (by rfl) (by rfl) (by rfl) (by rfl) (by rfl) (by rfl) (by rfl) (by rfl) x, ?_⟩
      refine ⟨fun x => ?_, ?_⟩
      · rw [ld_prow harg12 p 0 1 ![1, 0, 0] rfl, ld_prow harg12 p 0 2 ![2, 0, 0] rfl, ld_prow harg12 p 0 3 ![3, 0, 0] rfl, ld_prow harg12 p 0 4 ![4, 0, 0] rfl, ld_prow harg12 p 0 5 ![5, 0, 0] rfl, ld_vh harg4 x2 0 ![0, 0, 0, 0] rfl]
        exact st_out p x2 0 _ (by rfl) _ x
      exact fun p hp => absurd hp List.not_mem_nil
    · sl_unfold_run_names
      rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexact Hk

/-- The body: from the input blocks in their buffers it leaves the output block `out` in its buffer. -/
theorem run (c : Dev nD) (i : grid0.Coords) (arg2 : Memref sig .tc .vmem S1x18x256x160 .fp8e4m3) (harg2 : arg2.IsWhole) (arg3 : Memref sig .tc .vmem S1x18x768x160 .fp8e4m3) (harg3 : arg3.IsWhole) (arg4 : Memref sig .tc .vmem S1x10x768x160 .fp8e4m3) (harg4 : arg4.IsWhole) (arg5 : Memref sig .tc .vmem S1x256x18 .f32) (harg5 : arg5.IsWhole) (arg6 : Memref sig .tc .vmem S1x18x768 .f32) (harg6 : arg6.IsWhole) (arg7 : Memref sig .tc .vmem S1x40x768 .f32) (harg7 : arg7.IsWhole) (arg8 : Memref sig .tc .vmem S168x216 .bf16) (harg8 : arg8.IsWhole) (arg9 : Memref sig .tc .vmem S80x224 .bf16) (harg9 : arg9.IsWhole) (arg10 : Memref sig .tc .vmem S1x256x1600 .bf16) (harg10 : arg10.IsWhole) (arg11 : Memref sig .tc .vmem S6x4608x128 .f32) (harg11 : arg11.IsWhole) (arg12 : Memref sig .tc .vmem S6x2560x128 .f32) (harg12 : arg12.IsWhole) (arg13 : Memref sig .tc .vmem S56x768 .f32) (harg13 : arg13.IsWhole) (arg14 : Memref sig .tc .vmem S56x768 .f32) (harg14 : arg14.IsWhole)
    (x0 : Vec F S1x18x256x160 .fp8e4m3) (x1 : Vec F S1x18x768x160 .fp8e4m3) (x2 : Vec F S1x10x768x160 .fp8e4m3) (x3 : Vec F S1x256x18 .f32) (x4 : Vec F S1x18x768 .f32) (x5 : Vec F S1x40x768 .f32) (x6 : Vec F S168x216 .bf16) (x7 : Vec F S80x224 .bf16) (R : sProp 𝕄) (E : Set ℕ) (K : PUnit → sProp 𝕄)
    (h : iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out x0 x1 x2 x3 x4 x5 x6 x7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ R) ⊢ K ⟨⟩) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ R)
      ⊢ wp frame (wpE (defs₀ (F := F)) Variants.none c none) E (cc0_talking_heads i arg2 harg2 arg3 harg3 arg4 harg4 arg5 harg5 arg6 harg6 arg7 harg7 arg8 harg8 arg9 harg9 arg10 harg10 arg11 harg11 arg12 harg12 arg13 harg13 arg14 harg14) K := by
  refine runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 R E K ?_
  rintro v709 v713 rfl rfl
  refine runC c i arg2 harg2 arg3 harg3 arg4 harg4 arg5 harg5 arg6 harg6 arg7 harg7 arg8 harg8 arg9 harg9 arg10 harg10 arg11 harg11 arg12 harg12 arg13 harg13 arg14 harg14 (scores x0 x1 x3 x4) x0 x1 x2 x3 x4 x5 x6 x7 R E K ?_
  rintro v1127 rfl
  exact runD c i arg2 harg2 arg3 harg3 arg4 harg4 arg5 harg5 arg6 harg6 arg7 harg7 arg8 harg8 arg9 harg9 arg10 harg10 arg11 harg11 arg12 harg12 arg13 harg13 arg14 harg14 (scores x0 x1 x3 x4) (weights (scores x0 x1 x3 x4) x5 x6 x7) x0 x1 x2 x3 x4 x5 x6 x7 R E K h

end Cert.KernelIdeal.Value

end
-- ==== Proof.Out.lean ====
/- The run of `KernelIdeal` with its result named: at a grid point the body leaves `Spec.out` of the point's input
   blocks in its output block, the six output blocks tile the result array, and each input block is its rectangle of
   the array it is cut from. -/
module

public import proofs.«01_k».proof.Proof.RunBody
public import proofs.«01_k».proof.Proof.Gen.KernelIdeal.Frame
public import Idealize.ShloMosaic.Lib.Pipeline.Value

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Spec
open Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's staging memref at a point. -/
abbrev ms0 (t : Fin cfg0.N) : Memref sig .tc .vmem S1x18x256x160 .fp8e4m3 := win0_0.stage (cfg0.slots t 0)
abbrev ms1 (t : Fin cfg0.N) : Memref sig .tc .vmem S1x18x768x160 .fp8e4m3 := win0_1.stage (cfg0.slots t 1)
abbrev ms2 (t : Fin cfg0.N) : Memref sig .tc .vmem S1x10x768x160 .fp8e4m3 := win0_2.stage (cfg0.slots t 2)
abbrev ms3 (t : Fin cfg0.N) : Memref sig .tc .vmem S1x256x18 .f32 := win0_3.stage (cfg0.slots t 3)
abbrev ms4 (t : Fin cfg0.N) : Memref sig .tc .vmem S1x18x768 .f32 := win0_4.stage (cfg0.slots t 4)
abbrev ms5 (t : Fin cfg0.N) : Memref sig .tc .vmem S1x40x768 .f32 := win0_5.stage (cfg0.slots t 5)
abbrev ms6 (t : Fin cfg0.N) : Memref sig .tc .vmem S168x216 .bf16 := win0_6.stage (cfg0.slots t 6)
abbrev ms7 (t : Fin cfg0.N) : Memref sig .tc .vmem S80x224 .bf16 := win0_7.stage (cfg0.slots t 7)
abbrev ms8 (t : Fin cfg0.N) : Memref sig .tc .vmem S1x256x1600 .bf16 := win0_8.stage (cfg0.slots t 8)
/-- The scratch buffers. -/
abbrev sc0 : Memref sig .tc .vmem S6x4608x128 .f32 := Memref.whole cc0_scratch0
abbrev sc1 : Memref sig .tc .vmem S6x2560x128 .f32 := Memref.whole cc0_scratch1
abbrev sc2 : Memref sig .tc .vmem S56x768 .f32 := Memref.whole cc0_scratch2
abbrev sc3 : Memref sig .tc .vmem S56x768 .f32 := Memref.whole cc0_scratch3

/-- The invariant between points: the scratch buffers at some contents and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What the body leaves in the output block at point `t`. -/
def blockOut (c : Dev nD) (t : Fin cfg0.N) : Vec F S1x256x1600 .bf16 :=
  out (iblk m c 0 t) (iblk m c 1 t) (iblk m c 2 t) (iblk m c 3 t) (iblk m c 4 t) (iblk m c 5 t) (iblk m c 6 t) (iblk m c 7 t)

/-- The proof data: arrays as the region finds them, each input's buffer at its block, the output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockOut m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = blockOut m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, PhiA_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
    iprop((∃ r, prngReg c r) ∗ (dats m 0 c).owesAt () t.castSucc) Set.univ _ ?hk)
  case hk =>
    iintro ⟨H0, H1, H2, H3, H4, H5, H6, H7, H8, HS0, HS1, HS2, HS3, Hg, Ho⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [Hg]; · iexact Hg
  iexact Ho

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the region as the region leaves it, every counter at zero. -/
theorem run_main_quiescent : θ_run defs (onTc (τ := τ) (main (F := F))) (s₀ m ρ) (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The result array -/

theorem index_8 : ∀ t : Fin 6, win0_8.index t 0 = t.val / 3 ∧ win0_8.index t 1 = t.val % 3 ∧ win0_8.index t 2 = 0 := by decide

/-- The result array: query `256 i + r` of batch `b` is row `r` of the block of point `3 b + i`. -/
def result (c : Dev nD) : Vec F S2x768x1600 .bf16 := fun y =>
  blockOut m c (⟨3 * (y 0).val + (y 1).val / 256, by
      have h0 := (y 0).isLt; have h1 := (y 1).isLt; change (y 0).val < 2 at h0; change (y 1).val < 768 at h1
      show _ < 6; omega⟩ : Fin 6)
    (ix3 0 ⟨(y 1).val % 256, Nat.mod_lt _ (by decide)⟩ (y 2))

theorem flushed_eq (c : Dev nD) (t : Fin cfg0.N) (hf : (cfg0.win 8).flush t = true) :
    (dats m 0 c).flushed 8 t = ((cfg0.win 8).blk t).view.read (Elt F) (result m c) := by
  obtain ⟨i0, i1, i2⟩ := index_8 t
  show (cfg0.win 8).cut (grid0.coords t) ((dats m 0 c).after 8 t) = _
  rw [after_8]
  funext j
  rw [View.read_apply]
  have ht := t.isLt; change t.val < 6 at ht
  have h0 : (j 0).val < 1 := (j 0).isLt
  have h1 : (j 1).val < 256 := (j 1).isLt
  have h2 : (j 2).val < 1600 := (j 2).isLt
  have e0 : ((((cfg0.win 8).blk t).view.emb j : S2x768x1600.Idx) 0).val = t.val / 3 := by
    show win0_8.index t 0 * 1 + 1 * (j 0).val = _; rw [i0]; omega
  have e1 : ((((cfg0.win 8).blk t).view.emb j : S2x768x1600.Idx) 1).val = 256 * (t.val % 3) + (j 1).val := by
    show win0_8.index t 1 * 256 + 1 * (j 1).val = _; rw [i1]; omega
  have e2 : ((((cfg0.win 8).blk t).view.emb j : S2x768x1600.Idx) 2).val = (j 2).val := by
    show win0_8.index t 2 * 1600 + 1 * (j 2).val = _; rw [i2]; omega
  show blockOut m c t _ = blockOut m c _ _
  refine congr (congrArg (blockOut m c) (Fin.ext ?_)) (funext fun a => Fin.ext ?_)
  · show t.val = 3 * _ + _ / 256
    rw [e0, e1]; omega
  · match a with
    | ⟨0, _⟩ => show (j 0).val = 0; omega
    | ⟨1, _⟩ => show (j 1).val = _ % 256; rw [e1]; omega
    | ⟨2, _⟩ => exact e2.symm

theorem cover (i : S2x768x1600.Idx) :
    ∃ t : Fin cfg0.N, (cfg0.win 8).flush t = true ∧ i ∈ ((cfg0.win 8).blk t).view.set := by
  have h0 : (i 0).val < 2 := (i 0).isLt
  have h1 : (i 1).val < 768 := (i 1).isLt
  have h2 : (i 2).val < 1600 := (i 2).isLt
  let t : Fin 6 := ⟨3 * (i 0).val + (i 1).val / 256, by omega⟩
  obtain ⟨i0, i1, i2⟩ := index_8 t
  refine ⟨t, flush0_8 t, ?_⟩
  show i ∈ ((View.whole main_v111).slice (win0_8.rect t)).set
  rw [View.set_slice_whole, Rect.mem_set_unit]
  intro a
  match a with
  | ⟨0, _⟩ =>
    show win0_8.index t 0 * 1 ≤ (i 0).val ∧ (i 0).val < win0_8.index t 0 * 1 + 1
    rw [i0]; show (3 * (i 0).val + (i 1).val / 256) / 3 * 1 ≤ _ ∧ _ < (3 * (i 0).val + (i 1).val / 256) / 3 * 1 + 1; omega
  | ⟨1, _⟩ =>
    show win0_8.index t 1 * 256 ≤ (i 1).val ∧ (i 1).val < win0_8.index t 1 * 256 + 256
    rw [i1]; show (3 * (i 0).val + (i 1).val / 256) % 3 * 256 ≤ _ ∧ _ < (3 * (i 0).val + (i 1).val / 256) % 3 * 256 + 256; omega
  | ⟨2, _⟩ =>
    show win0_8.index t 2 * 1600 ≤ (i 2).val ∧ (i 2).val < win0_8.index t 2 * 1600 + 1600
    rw [i2]; omega

theorem final (c : Dev nD) : (dats m 0 c).arrAt 8 cfg0.N = result m c :=
  (dats m 0 c).arrAt_eq_of_cover 8 (result m c) (flushed_eq m c) cover

set_option maxHeartbeats 2000000 in
/-- The run with the result array named and the arguments unchanged. -/
theorem run_value : θ_run defs (onTc (τ := τ) (main (F := F))) ⟨m, fun _ => 0, ρ⟩ (fun r => ∀ c : Dev nD,
      r.2.mem ((c.tc : Thread nD τ).loc main_v111) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final m c),
      ((h c).2 main_arg0 (Pipeline.mem_restRefs_of main_arg0 (by decide) (by decide))).trans (V_main_arg0 m c),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    ((θ_run defs _ _).mono (fun _ h => h.1) (run_main_quiescent m ρ))

/-- The frame claim at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and ((θ_run defs _ _).mono (fun _ h c => (h c).2) (run_value m ρ)) ((θ_run defs _ _).mono (fun _ h => h.2) (run_main_quiescent m ρ))

/-! ## The input blocks -/

theorem index_0 : ∀ t : Fin 6, win0_0.index t 0 = t.val / 3 ∧ win0_0.index t 1 = 0 ∧ win0_0.index t 2 = t.val % 3 ∧ win0_0.index t 3 = 0 := by decide

theorem iblk_0 (c : Dev nD) (t : Fin 6) (y : S1x18x256x160.Idx) :
    (iblk m c 0 t : Vec F S1x18x256x160 .fp8e4m3) y = V m c main_v2 (ix4 ⟨t.val / 3, by have := t.isLt; omega⟩ (y 1) ⟨256 * (t.val % 3) + (y 2).val, by have := t.isLt; have h := (y 2).isLt; change (y 2).val < 256 at h; omega⟩ (y 3)) := by
  obtain ⟨i0, i1, i2, i3⟩ := index_0 t
  have h0 : (y 0).val < 1 := (y 0).isLt
  unfold iblk
  rw [View.read_apply]
  show V m c main_v2 _ = V m c main_v2 _
  refine congrArg (V m c main_v2) (funext fun a => Fin.ext ?_)
  match a with
  | ⟨0, _⟩ => show win0_0.index t 0 * 1 + 1 * (y 0).val = t.val / 3; rw [i0]; omega
  | ⟨1, _⟩ => show win0_0.index t 1 * 18 + 1 * (y 1).val = (y 1).val; rw [i1]; omega
  | ⟨2, _⟩ => show win0_0.index t 2 * 256 + 1 * (y 2).val = 256 * (t.val % 3) + (y 2).val; rw [i2]; omega
  | ⟨3, _⟩ => show win0_0.index t 3 * 160 + 1 * (y 3).val = (y 3).val; rw [i3]; omega

theorem index_1 : ∀ t : Fin 6, win0_1.index t 0 = t.val / 3 ∧ win0_1.index t 1 = 0 ∧ win0_1.index t 2 = 0 ∧ win0_1.index t 3 = 0 := by decide

theorem iblk_1 (c : Dev nD) (t : Fin 6) (y : S1x18x768x160.Idx) :
    (iblk m c 1 t : Vec F S1x18x768x160 .fp8e4m3) y = V m c main_v3 (ix4 ⟨t.val / 3, by have := t.isLt; omega⟩ (y 1) (y 2) (y 3)) := by
  obtain ⟨i0, i1, i2, i3⟩ := index_1 t
  have h0 : (y 0).val < 1 := (y 0).isLt
  unfold iblk
  rw [View.read_apply]
  show V m c main_v3 _ = V m c main_v3 _
  refine congrArg (V m c main_v3) (funext fun a => Fin.ext ?_)
  match a with
  | ⟨0, _⟩ => show win0_1.index t 0 * 1 + 1 * (y 0).val = t.val / 3; rw [i0]; omega
  | ⟨1, _⟩ => show win0_1.index t 1 * 18 + 1 * (y 1).val = (y 1).val; rw [i1]; omega
  | ⟨2, _⟩ => show win0_1.index t 2 * 768 + 1 * (y 2).val = (y 2).val; rw [i2]; omega
  | ⟨3, _⟩ => show win0_1.index t 3 * 160 + 1 * (y 3).val = (y 3).val; rw [i3]; omega

theorem index_2 : ∀ t : Fin 6, win0_2.index t 0 = t.val / 3 ∧ win0_2.index t 1 = 0 ∧ win0_2.index t 2 = 0 ∧ win0_2.index t 3 = 0 := by decide

theorem iblk_2 (c : Dev nD) (t : Fin 6) (y : S1x10x768x160.Idx) :
    (iblk m c 2 t : Vec F S1x10x768x160 .fp8e4m3) y = V m c main_v4 (ix4 ⟨t.val / 3, by have := t.isLt; omega⟩ (y 1) (y 2) (y 3)) := by
  obtain ⟨i0, i1, i2, i3⟩ := index_2 t
  have h0 : (y 0).val < 1 := (y 0).isLt
  unfold iblk
  rw [View.read_apply]
  show V m c main_v4 _ = V m c main_v4 _
  refine congrArg (V m c main_v4) (funext fun a => Fin.ext ?_)
  match a with
  | ⟨0, _⟩ => show win0_2.index t 0 * 1 + 1 * (y 0).val = t.val / 3; rw [i0]; omega
  | ⟨1, _⟩ => show win0_2.index t 1 * 10 + 1 * (y 1).val = (y 1).val; rw [i1]; omega
  | ⟨2, _⟩ => show win0_2.index t 2 * 768 + 1 * (y 2).val = (y 2).val; rw [i2]; omega
  | ⟨3, _⟩ => show win0_2.index t 3 * 160 + 1 * (y 3).val = (y 3).val; rw [i3]; omega

theorem index_3 : ∀ t : Fin 6, win0_3.index t 0 = t.val / 3 ∧ win0_3.index t 1 = t.val % 3 ∧ win0_3.index t 2 = 0 := by decide

theorem iblk_3 (c : Dev nD) (t : Fin 6) (y : S1x256x18.Idx) :
    (iblk m c 3 t : Vec F S1x256x18 .f32) y = V m c main_arg1 (ix3 ⟨t.val / 3, by have := t.isLt; omega⟩ ⟨256 * (t.val % 3) + (y 1).val, by have := t.isLt; have h := (y 1).isLt; change (y 1).val < 256 at h; omega⟩ (y 2)) := by
  obtain ⟨i0, i1, i2⟩ := index_3 t
  have h0 : (y 0).val < 1 := (y 0).isLt
  unfold iblk
  rw [View.read_apply]
  show V m c main_arg1 _ = V m c main_arg1 _
  refine congrArg (V m c main_arg1) (funext fun a => Fin.ext ?_)
  match a with
  | ⟨0, _⟩ => show win0_3.index t 0 * 1 + 1 * (y 0).val = t.val / 3; rw [i0]; omega
  | ⟨1, _⟩ => show win0_3.index t 1 * 256 + 1 * (y 1).val = 256 * (t.val % 3) + (y 1).val; rw [i1]; omega
  | ⟨2, _⟩ => show win0_3.index t 2 * 18 + 1 * (y 2).val = (y 2).val; rw [i2]; omega

theorem index_4 : ∀ t : Fin 6, win0_4.index t 0 = t.val / 3 ∧ win0_4.index t 1 = 0 ∧ win0_4.index t 2 = 0 := by decide

theorem iblk_4 (c : Dev nD) (t : Fin 6) (y : S1x18x768.Idx) :
    (iblk m c 4 t : Vec F S1x18x768 .f32) y = V m c main_v5 (ix3 ⟨t.val / 3, by have := t.isLt; omega⟩ (y 1) (y 2)) := by
  obtain ⟨i0, i1, i2⟩ := index_4 t
  have h0 : (y 0).val < 1 := (y 0).isLt
  unfold iblk
  rw [View.read_apply]
  show V m c main_v5 _ = V m c main_v5 _
  refine congrArg (V m c main_v5) (funext fun a => Fin.ext ?_)
  match a with
  | ⟨0, _⟩ => show win0_4.index t 0 * 1 + 1 * (y 0).val = t.val / 3; rw [i0]; omega
  | ⟨1, _⟩ => show win0_4.index t 1 * 18 + 1 * (y 1).val = (y 1).val; rw [i1]; omega
  | ⟨2, _⟩ => show win0_4.index t 2 * 768 + 1 * (y 2).val = (y 2).val; rw [i2]; omega

theorem index_5 : ∀ t : Fin 6, win0_5.index t 0 = t.val / 3 ∧ win0_5.index t 1 = 0 ∧ win0_5.index t 2 = 0 := by decide

theorem iblk_5 (c : Dev nD) (t : Fin 6) (y : S1x40x768.Idx) :
    (iblk m c 5 t : Vec F S1x40x768 .f32) y = V m c main_v9 (ix3 ⟨t.val / 3, by have := t.isLt; omega⟩ (y 1) (y 2)) := by
  obtain ⟨i0, i1, i2⟩ := index_5 t
  have h0 : (y 0).val < 1 := (y 0).isLt
  unfold iblk
  rw [View.read_apply]
  show V m c main_v9 _ = V m c main_v9 _
  refine congrArg (V m c main_v9) (funext fun a => Fin.ext ?_)
  match a with
  | ⟨0, _⟩ => show win0_5.index t 0 * 1 + 1 * (y 0).val = t.val / 3; rw [i0]; omega
  | ⟨1, _⟩ => show win0_5.index t 1 * 40 + 1 * (y 1).val = (y 1).val; rw [i1]; omega
  | ⟨2, _⟩ => show win0_5.index t 2 * 768 + 1 * (y 2).val = (y 2).val; rw [i2]; omega

theorem index_6 : ∀ t : Fin 6, win0_6.index t 0 = 0 ∧ win0_6.index t 1 = 0 := by decide

theorem iblk_6 (c : Dev nD) (t : Fin 6) (y : S168x216.Idx) :
    (iblk m c 6 t : Vec F S168x216 .bf16) y = V m c main_v60 y := by
  obtain ⟨i0, i1⟩ := index_6 t
  unfold iblk
  rw [View.read_apply]
  show V m c main_v60 _ = V m c main_v60 _
  refine congrArg (V m c main_v60) (funext fun a => Fin.ext ?_)
  match a with
  | ⟨0, _⟩ => show win0_6.index t 0 * 168 + 1 * (y 0).val = (y 0).val; rw [i0]; omega
  | ⟨1, _⟩ => show win0_6.index t 1 * 216 + 1 * (y 1).val = (y 1).val; rw [i1]; omega

theorem index_7 : ∀ t : Fin 6, win0_7.index t 0 = 0 ∧ win0_7.index t 1 = 0 := by decide

theorem iblk_7 (c : Dev nD) (t : Fin 6) (y : S80x224.Idx) :
    (iblk m c 7 t : Vec F S80x224 .bf16) y = V m c main_v110 y := by
  obtain ⟨i0, i1⟩ := index_7 t
  unfold iblk
  rw [View.read_apply]
  show V m c main_v110 _ = V m c main_v110 _
  refine congrArg (V m c main_v110) (funext fun a => Fin.ext ?_)
  match a with
  | ⟨0, _⟩ => show win0_7.index t 0 * 80 + 1 * (y 0).val = (y 0).val; rw [i0]; omega
  | ⟨1, _⟩ => show win0_7.index t 1 * 224 + 1 * (y 1).val = (y 1).val; rw [i1]; omega

end Cert.KernelIdeal.Value

end
-- ==== Proof.KernelPoint.lean ====
/- The body's pieces, at the ideal values, read at an index: a head's scores, the logits of a group, their softmax, the
   weights of a group and the result's block. -/
module

public import proofs.«01_k».proof.Proof.Gen.KernelIdeal.Skeleton
public import Idealize.ShloMosaic.Lib.Pointwise

@[expose] public section

set_option maxRecDepth 16384

noncomputable section

namespace Cert.KernelIdeal.Point

open Idealize.ShloMosaic
open Cert.KernelIdeal Cert.KernelIdeal.Gen

/-- The scale of the scores. -/
abbrev scale : EReal := (((Real.sqrt 160)⁻¹ * (Real.log 2)⁻¹ : ℝ) : EReal)

theorem pay60_apply (a : Vec Ideal S1x1x256x160 .fp8e4m3) (b : Vec Ideal S1x1x768x160 .fp8e4m3) (s : Vec Ideal S1x256x1 .f32)
    (t : Vec Ideal S1x1x768 .f32) (i : Fin 256) (j : Fin 768) :
    k0_pay60 a b s t (ix2 i j) = (∑ d : Fin 160, a (ix4 0 0 i d) * b (ix4 0 0 j d)) * (s (ix3 0 i 0) * scale) * t (ix3 0 0 j) := by
  have hn : (Named.named (F := Ideal) κ "log2e_over_sqrt_d" 0x3DE995B3#32 : Ideal .f32) = scale := rfl
  unfold k0_pay60
  rw [hn]
  pointwise

/-- Two chunks of 128 keys side by side. -/
def pair (a b : Vec Ideal S1x72x128 .f32) : FVec Ideal S72x256 .f32 :=
  concatenate S72x256 1 [⟨S72x128, (shapeCast S72x128 a shapeCasts_S1x72x128_S72x128 : FVec Ideal S72x128 .f32)⟩, ⟨S72x128, (shapeCast S72x128 b shapeCasts_S1x72x128_S72x128 : FVec Ideal S72x128 .f32)⟩] concatenates_S72x128_S72x128_S72x256_d1

theorem pair_apply (a b : Vec Ideal S1x72x128 .f32) (k : Fin 72) (l : Fin 256) :
    pair a b (ix2 k l) = if h : l.val < 128 then a (ix3 0 k ⟨l.val, h⟩) else b (ix3 0 k ⟨l.val - 128, by omega⟩) := by
  pointwise [pair]

/-- A plane of scores as three limbs, one below another. -/
def limbs (x : FVec Ideal S72x256 .f32) : FVec Ideal S216x256 .bf16 :=
  concatenate S216x256 0 [⟨S72x256, (truncf .bf16 (extf .f32 (truncf .bf16 x bitsLt_bf16_f32) bitsLt_bf16_f32) bitsLt_bf16_f32 : FVec Ideal S72x256 .bf16)⟩,
    ⟨S72x256, (truncf .bf16 (extf .f32 (truncf .bf16 (subf x (extf .f32 (truncf .bf16 x bitsLt_bf16_f32) bitsLt_bf16_f32)) bitsLt_bf16_f32) bitsLt_bf16_f32) bitsLt_bf16_f32 : FVec Ideal S72x256 .bf16)⟩,
    ⟨S72x256, (truncf .bf16 (subf (subf x (extf .f32 (truncf .bf16 x bitsLt_bf16_f32) bitsLt_bf16_f32)) (extf .f32 (truncf .bf16 (subf x (extf .f32 (truncf .bf16 x bitsLt_bf16_f32) bitsLt_bf16_f32)) bitsLt_bf16_f32) bitsLt_bf16_f32)) bitsLt_bf16_f32 : FVec Ideal S72x256 .bf16)⟩] concatenates_S72x256_S72x256_S72x256_S216x256_d0

theorem limbs_apply (x : FVec Ideal S72x256 .f32) (hx : ∀ k l, ∃ r : ℝ, x (ix2 k l) = (r : EReal)) (k : Fin 216) (l : Fin 256) :
    limbs x (ix2 k l) = if h : k.val < 72 then x (ix2 ⟨k.val, h⟩ l) else (0 : EReal) := by
  have h0 : ∀ k l, (x (ix2 k l) - x (ix2 k l) : EReal) = 0 := fun k l => by
    obtain ⟨r, hr⟩ := hx k l; rw [hr, ← EReal.coe_sub, sub_self, EReal.coe_zero]
  pointwise [limbs]
  by_cases h : k.val < 72
  · simp only [h, if_true, dif_pos]
  · simp [h, h0]

theorem pay2_apply (a b : Vec Ideal S1x72x128 .f32) (w : Vec Ideal S168x216 .bf16) (r : Fin 56) (l : Fin 256) :
    k0_pay2 a b w (ix2 r l) = (∑ k : Fin 216, w (ix2 ⟨r.val, by omega⟩ k) * limbs (pair a b) (ix2 k l))
      + (∑ k : Fin 216, w (ix2 ⟨56 + r.val, by omega⟩ k) * limbs (pair a b) (ix2 k l))
      + (∑ k : Fin 216, w (ix2 ⟨112 + r.val, by omega⟩ k) * limbs (pair a b) (ix2 k l)) := by
  have e : k0_pay2 a b w = shapeCast S56x256 (addf (addf
      (extractStridedSlice S56x256 ![0, 0] (matmul dot_S168x216_S216x256_S168x256_1_0_0_1_n_n none (φ₁ := .bf16) (φ₂ := .bf16) (shapeCast S168x216 w shapeCasts_S168x216_S168x216) (limbs (pair a b)) (constant S168x256 .f32 0x00000000#32)) slices_S168x256_o0_0_S56x256)
      (extractStridedSlice S56x256 ![56, 0] (matmul dot_S168x216_S216x256_S168x256_1_0_0_1_n_n none (φ₁ := .bf16) (φ₂ := .bf16) (shapeCast S168x216 w shapeCasts_S168x216_S168x216) (limbs (pair a b)) (constant S168x256 .f32 0x00000000#32)) slices_S168x256_o56_0_S56x256))
      (extractStridedSlice S56x256 ![112, 0] (matmul dot_S168x216_S216x256_S168x256_1_0_0_1_n_n none (φ₁ := .bf16) (φ₂ := .bf16) (shapeCast S168x216 w shapeCasts_S168x216_S168x216) (limbs (pair a b)) (constant S168x256 .f32 0x00000000#32)) slices_S168x256_o112_0_S56x256))
      shapeCasts_S56x256_S56x256 := rfl
  rw [e]
  generalize limbs (pair a b) = X
  pointwise

/-- The logits of a group from weights that are zero below their first fifty-six rows. -/
theorem pay2_eq (a b : Vec Ideal S1x72x128 .f32) (w : Vec Ideal S168x216 .bf16) (r : Fin 56) (l : Fin 256)
    (hx : ∀ k l, ∃ r : ℝ, pair a b (ix2 k l) = (r : EReal))
    (hw : ∀ (i : Fin 168) (k : Fin 216), k.val < 72 → 56 ≤ i.val → w (ix2 i k) = (0 : EReal)) :
    k0_pay2 a b w (ix2 r l) = ∑ k : Fin 72, w (ix2 ⟨r.val, by omega⟩ ⟨k.val, by omega⟩) * pair a b (ix2 k l) := by
  have key : ∀ i : Fin 168, (∑ k : Fin 216, w (ix2 i k) * limbs (pair a b) (ix2 k l) : EReal)
      = ∑ k : Fin 72, w (ix2 i ⟨k.val, by omega⟩) * pair a b (ix2 k l) := fun i => by
    rw [Fin.sum_univ_two_halves 72 144 rfl]
    have h2 : (∑ k : Fin 144, (w (ix2 i ⟨72 + k.val, by omega⟩) * limbs (pair a b) (ix2 ⟨72 + k.val, by omega⟩ l) : EReal)) = 0 :=
      Finset.sum_eq_zero fun k _ => by
        rw [limbs_apply _ hx, dif_neg (by simp), mul_zero]
    refine (congrArg₂ (· + ·) (Finset.sum_congr rfl fun k _ => ?_) h2).trans (add_zero _)
    rw [limbs_apply _ hx, dif_pos k.isLt]
  have z : ∀ i : Fin 168, 56 ≤ i.val → (∑ k : Fin 72, (w (ix2 i ⟨k.val, by omega⟩) * pair a b (ix2 k l) : EReal)) = 0 := fun i hi =>
    Finset.sum_eq_zero fun k _ => by rw [hw i ⟨k.val, by omega⟩ k.isLt hi, zero_mul]
  rw [pay2_apply, key, key, key, z ⟨56 + r.val, by omega⟩ (by simp), z ⟨112 + r.val, by omega⟩ (by simp; omega), add_zero, add_zero]

theorem pay8_apply (x : Vec Ideal S56x768 .f32) (r : Fin 56) (j : Fin 768) :
    k0_pay8 x (ix2 r j) = Ideal.exp2 (x (ix2 r j) - Finset.univ.fold max (Ideal.ofBits .f32 0xFF800000#32) fun k => x (ix2 r k))
      * Ideal.div 1 (∑ k' : Fin 768, Ideal.exp2 (x (ix2 r k') - Finset.univ.fold max (Ideal.ofBits .f32 0xFF800000#32) fun k => x (ix2 r k))) := by
  pointwise [k0_pay8]
  rfl

/-- A plane of softmax rows as its limbs, the first one twice, one below another. -/
def limbs4 (x : FVec Ideal S56x256 .f32) : FVec Ideal S224x256 .bf16 :=
  concatenate S224x256 0 [⟨S56x256, (truncf .bf16 (extf .f32 (truncf .bf16 x bitsLt_bf16_f32) bitsLt_bf16_f32) bitsLt_bf16_f32 : FVec Ideal S56x256 .bf16)⟩,
    ⟨S56x256, (truncf .bf16 (extf .f32 (truncf .bf16 x bitsLt_bf16_f32) bitsLt_bf16_f32) bitsLt_bf16_f32 : FVec Ideal S56x256 .bf16)⟩,
    ⟨S56x256, (truncf .bf16 (extf .f32 (truncf .bf16 (subf x (extf .f32 (truncf .bf16 x bitsLt_bf16_f32) bitsLt_bf16_f32)) bitsLt_bf16_f32) bitsLt_bf16_f32) bitsLt_bf16_f32 : FVec Ideal S56x256 .bf16)⟩,
    ⟨S56x256, (truncf .bf16 (subf (subf x (extf .f32 (truncf .bf16 x bitsLt_bf16_f32) bitsLt_bf16_f32)) (extf .f32 (truncf .bf16 (subf x (extf .f32 (truncf .bf16 x bitsLt_bf16_f32) bitsLt_bf16_f32)) bitsLt_bf16_f32) bitsLt_bf16_f32)) bitsLt_bf16_f32 : FVec Ideal S56x256 .bf16)⟩] concatenates_S56x256_S56x256_S56x256_S56x256_S224x256_d0

theorem limbs4_apply (x : FVec Ideal S56x256 .f32) (hx : ∀ k l, ∃ r : ℝ, x (ix2 k l) = (r : EReal)) (k : Fin 224) (l : Fin 256) :
    limbs4 x (ix2 k l) = if h : k.val < 56 then x (ix2 ⟨k.val, h⟩ l) else if h' : k.val < 112 then x (ix2 ⟨k.val - 56, by omega⟩ l) else (0 : EReal) := by
  have h0 : ∀ k l, (x (ix2 k l) - x (ix2 k l) : EReal) = 0 := fun k l => by
    obtain ⟨r, hr⟩ := hx k l; rw [hr, ← EReal.coe_sub, sub_self, EReal.coe_zero]
  pointwise [limbs4]
  by_cases h : k.val < 56
  · simp only [h, if_true, dif_pos]
  · by_cases h' : k.val < 112
    · have h1 : k.val - 56 < 56 := by omega
      simp [h, h', h1]
    · have h1 : ¬ k.val - 56 < 56 := by omega
      simp [h, h', h1, h0]

theorem pay17_apply (x : FVec Ideal S56x256 .f32) (w : Vec Ideal S80x224 .bf16) (s : Vec Ideal S1x40x256 .f32) (r : Fin 40) (l : Fin 256) :
    k0_pay17 x w s (ix2 r l) = ((∑ k : Fin 224, w (ix2 ⟨r.val, by omega⟩ k) * limbs4 x (ix2 k l))
      + (∑ k : Fin 224, w (ix2 ⟨40 + r.val, by omega⟩ k) * limbs4 x (ix2 k l))) * s (ix3 0 r l) := by
  unfold k0_pay17
  generalize hX : limbs4 x = X
  unfold limbs4 at hX
  simp only [hX]
  pointwise

/-- The weights of a group from mixing weights whose second limbs are zero. -/
theorem pay17_eq (x : FVec Ideal S56x256 .f32) (w : Vec Ideal S80x224 .bf16) (s : Vec Ideal S1x40x256 .f32) (r : Fin 40) (l : Fin 256)
    (hx : ∀ k l, ∃ r : ℝ, x (ix2 k l) = (r : EReal))
    (hw : ∀ (i : Fin 80) (k : Fin 224), k.val < 112 → (40 ≤ i.val ∨ 56 ≤ k.val) → w (ix2 i k) = (0 : EReal)) :
    k0_pay17 x w s (ix2 r l) = (∑ k : Fin 56, w (ix2 ⟨r.val, by omega⟩ ⟨k.val, by omega⟩) * x (ix2 k l)) * s (ix3 0 r l) := by
  have key : ∀ i : Fin 80, (∑ k : Fin 224, w (ix2 i k) * limbs4 x (ix2 k l) : EReal)
      = ∑ k : Fin 56, w (ix2 i ⟨k.val, by omega⟩) * x (ix2 k l) := fun i => by
    rw [Fin.sum_univ_two_halves 56 168 rfl]
    have h2 : (∑ k : Fin 168, (w (ix2 i ⟨56 + k.val, by omega⟩) * limbs4 x (ix2 ⟨56 + k.val, by omega⟩ l) : EReal)) = 0 :=
      Finset.sum_eq_zero fun k _ => by
        by_cases hk : 56 + k.val < 112
        · rw [hw i ⟨56 + k.val, by omega⟩ hk (Or.inr (by simp)), zero_mul]
        · rw [limbs4_apply _ hx, dif_neg (by simp), dif_neg hk, mul_zero]
    refine (congrArg₂ (· + ·) (Finset.sum_congr rfl fun k _ => ?_) h2).trans (add_zero _)
    rw [limbs4_apply _ hx, dif_pos k.isLt]
  have z : ∀ i : Fin 80, 40 ≤ i.val → (∑ k : Fin 56, (w (ix2 i ⟨k.val, by omega⟩) * x (ix2 k l) : EReal)) = 0 := fun i hi =>
    Finset.sum_eq_zero fun k _ => by rw [hw i ⟨k.val, by omega⟩ (by simp; omega) (Or.inl hi), zero_mul]
  rw [pay17_apply, key, key, z ⟨40 + r.val, by omega⟩ (by simp), add_zero]

end Cert.KernelIdeal.Point

end
-- ==== Proof.OutPoint.lean ====
/- A value head's columns of the output block, at the ideal values, read at an index. -/
module

public import proofs.«01_k».proof.Proof.Gen.KernelIdeal.Skeleton
public import Idealize.ShloMosaic.Lib.Pointwise

@[expose] public section

set_option maxRecDepth 16384

noncomputable section

namespace Cert.KernelIdeal.Point

open Idealize.ShloMosaic
open Cert.KernelIdeal Cert.KernelIdeal.Gen

/-- Six chunks of 128 keys side by side. -/
def six (a0 a1 a2 a3 a4 a5 : Vec Ideal S1x256x128 .f32) : FVec Ideal S256x768 .f32 :=
  concatenate S256x768 1 [⟨S256x128, (shapeCast S256x128 a0 shapeCasts_S1x256x128_S256x128 : FVec Ideal S256x128 .f32)⟩,
    ⟨S256x128, (shapeCast S256x128 a1 shapeCasts_S1x256x128_S256x128 : FVec Ideal S256x128 .f32)⟩,
    ⟨S256x128, (shapeCast S256x128 a2 shapeCasts_S1x256x128_S256x128 : FVec Ideal S256x128 .f32)⟩,
    ⟨S256x128, (shapeCast S256x128 a3 shapeCasts_S1x256x128_S256x128 : FVec Ideal S256x128 .f32)⟩,
    ⟨S256x128, (shapeCast S256x128 a4 shapeCasts_S1x256x128_S256x128 : FVec Ideal S256x128 .f32)⟩,
    ⟨S256x128, (shapeCast S256x128 a5 shapeCasts_S1x256x128_S256x128 : FVec Ideal S256x128 .f32)⟩]
    concatenates_S256x128_S256x128_S256x128_S256x128_S256x128_S256x128_S256x768_d1

theorem six_apply (a : Fin 6 → Vec Ideal S1x256x128 .f32) (i : Fin 256) (j : Fin 768) :
    six (a 0) (a 1) (a 2) (a 3) (a 4) (a 5) (ix2 i j) = a ⟨j.val / 128, by omega⟩ (ix3 0 i ⟨j.val % 128, by omega⟩) := by
  have key : ∀ (c : Fin 6) (l : Fin 128), j.val = 128 * c.val + l.val →
      a ⟨j.val / 128, by omega⟩ (ix3 0 i ⟨j.val % 128, by omega⟩) = a c (ix3 0 i l) := fun c l h => by
    have h1 : (⟨j.val / 128, by omega⟩ : Fin 6) = c := Fin.ext (by show j.val / 128 = c.val; omega)
    have h2 : (⟨j.val % 128, by omega⟩ : Fin 128) = l := Fin.ext (by show j.val % 128 = l.val; omega)
    rw [h1, h2]
  pointwise [six]
  split_ifs
  all_goals first
    | exact (key 0 _ (by simp; omega)).symm
    | exact (key 0 _ (by simp)).symm
    | exact (key 1 _ (by simp; omega)).symm
    | exact (key 1 _ (by simp)).symm
    | exact (key 2 _ (by simp; omega)).symm
    | exact (key 2 _ (by simp)).symm
    | exact (key 3 _ (by simp; omega)).symm
    | exact (key 3 _ (by simp)).symm
    | exact (key 4 _ (by simp; omega)).symm
    | exact (key 4 _ (by simp)).symm
    | exact (key 5 _ (by simp; omega)).symm
    | exact (key 5 _ (by simp)).symm

theorem pay222_apply (a0 a1 a2 a3 a4 a5 : Vec Ideal S1x256x128 .f32) (v : Vec Ideal S1x1x768x160 .fp8e4m3) (i : Fin 256) (d : Fin 160) :
    k0_pay222 a0 a1 a2 a3 a4 a5 v (ix3 0 i d) = ∑ j : Fin 768, six a0 a1 a2 a3 a4 a5 (ix2 i j) * v (ix4 0 0 j d) := by
  have e : k0_pay222 a0 a1 a2 a3 a4 a5 v = shapeCast S1x256x160 (truncf .bf16 (matmul dot_S256x768_S768x160_S256x160_1_0_0_1_n_n none (φ₁ := .bf16) (φ₂ := .bf16)
      (truncf .bf16 (six a0 a1 a2 a3 a4 a5) bitsLt_bf16_f32) (extf .bf16 (shapeCast S768x160 v shapeCasts_S1x1x768x160_S768x160) bitsLt_fp8e4m3_bf16)
      (constant S256x160 .f32 0x00000000#32)) bitsLt_bf16_f32) shapeCasts_S256x160_S1x256x160 := rfl
  rw [e]
  generalize six a0 a1 a2 a3 a4 a5 = X
  pointwise

end Cert.KernelIdeal.Point

end
-- ==== Proof.Softmax.lean ====
/- The two softmaxes agree: one by powers of two of logits divided by the logarithm of two, times a reciprocal; the other by
   exponentials, divided by their sum. And sums and products of finite values are finite. -/
module

public import Idealize.ShloMosaic.PureOps.Ideal

@[expose] public section

noncomputable section

namespace Cert.Softmax

open Idealize.ShloMosaic

/-- The value is a real number. -/
def Fin' (x : EReal) : Prop := ∃ r : ℝ, x = (r : EReal)

theorem Fin'.add {x y : EReal} : Fin' x → Fin' y → Fin' (x + y) := fun ⟨a, ha⟩ ⟨b, hb⟩ => ⟨a + b, by rw [ha, hb, EReal.coe_add]⟩
theorem Fin'.mul {x y : EReal} : Fin' x → Fin' y → Fin' (x * y) := fun ⟨a, ha⟩ ⟨b, hb⟩ => ⟨a * b, by rw [ha, hb, EReal.coe_mul]⟩
theorem Fin'.coe (r : ℝ) : Fin' (r : EReal) := ⟨r, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type} (s : Finset ι) (f : ι → EReal) (h : ∀ i, Fin' (f i)) : Fin' (∑ i ∈ s, f i) := by
  choose g hg using h
  exact ⟨∑ i ∈ s, g i, by rw [coe_sum]; exact Finset.sum_congr rfl fun i _ => hg i⟩

/-- The greatest of finitely many reals is attained. -/
theorem fold_max {n : ℕ} (l : Fin n → ℝ) (j0 : Fin n) (h : ∀ j, l j ≤ l j0) :
    (Finset.univ.fold max ⊥ fun j => (l j : EReal)) = (l j0 : EReal) := by
  refine le_antisymm ?_ ?_
  · exact (Finset.fold_max_le _).2 ⟨bot_le, fun j _ => EReal.coe_le_coe_iff.2 (h j)⟩
  · exact (Finset.le_fold_max _).2 (Or.inr ⟨j0, Finset.mem_univ _, le_refl _⟩)

/-- Both softmaxes of the same finite logits are the same finite value. -/
theorem softmax_eq {n : ℕ} (l : Fin n → EReal) (h : ∀ j, Fin' (l j)) (j : Fin n) :
    let c : EReal := (((Real.log 2)⁻¹ : ℝ) : EReal)
    let M := Finset.univ.fold max ⊥ fun k => l k * c
    let M' := Finset.univ.fold max ⊥ fun k => l k
    Ideal.exp2 (l j * c - M) * Ideal.div 1 (∑ k, Ideal.exp2 (l k * c - M))
        = Ideal.div (Ideal.exp (l j - M')) (∑ k, Ideal.exp (l k - M'))
      ∧ Fin' (Ideal.exp2 (l j * c - M) * Ideal.div 1 (∑ k, Ideal.exp2 (l k * c - M))) := by
  choose r hr using h
  obtain rfl : l = fun j => (r j : EReal) := funext hr
  intro c M M'
  have hlog : 0 < Real.log 2 := Real.log_pos (by norm_num)
  haveI : Nonempty (Fin n) := ⟨j⟩
  obtain ⟨j0, hj0⟩ := Finite.exists_max r
  have hM' : M' = (r j0 : EReal) := fold_max r j0 hj0
  have hM : M = ((r j0 * (Real.log 2)⁻¹ : ℝ) : EReal) := by
    have := fold_max (fun k => r k * (Real.log 2)⁻¹) j0 fun k => mul_le_mul_of_nonneg_right (hj0 k) (inv_pos.2 hlog).le
    simp only [EReal.coe_mul] at this ⊢
    exact this
  have he : ∀ k, Ideal.exp2 ((r k : EReal) * c - M) = ((Real.exp (r k - r j0) : ℝ) : EReal) := fun k => by
    rw [hM]
    show Ideal.exp2 ((r k : EReal) * (((Real.log 2)⁻¹ : ℝ) : EReal) - _) = _
    rw [← EReal.coe_mul, ← EReal.coe_sub, Ideal.exp2_coe]
    refine congrArg _ ?_
    show (2 : ℝ) ^ (r k * (Real.log 2)⁻¹ - r j0 * (Real.log 2)⁻¹ : ℝ) = _
    rw [Real.rpow_def_of_pos (by norm_num)]
    congr 1
    field_simp
  have he' : ∀ k, Ideal.exp ((r k : EReal) - M') = ((Real.exp (r k - r j0) : ℝ) : EReal) := fun k => by
    rw [hM', ← EReal.coe_sub, Ideal.exp_coe]
  simp only [he, he']
  rw [← coe_sum]
  have hs : (∑ k, Real.exp (r k - r j0)) ≠ 0 := (Finset.sum_pos (fun k _ => Real.exp_pos _) Finset.univ_nonempty).ne'
  rw [Ideal.div_coe hs, Ideal.div_coe hs, one_mul]
  exact ⟨rfl, _, (EReal.coe_mul _ _).symm⟩

end Cert.Softmax

end
-- ==== Proof.HostValues.lean ====
/- What the host leaves in the arrays the kernel reads, at the ideal values: the transposed codes and scales, and the
   block-diagonal mixing matrices. -/
module

public import proofs.«01_k».proof.Proof.Gen.KernelIdeal.Frame
public import Idealize.ShloMosaic.Lib.StableHlo.Run

@[expose] public section

set_option maxRecDepth 16384

noncomputable section

namespace Cert.KernelIdeal.HostValues

open Idealize.ShloMosaic Idealize.ShloMosaic.TcCoe Idealize.ShloMosaic.StableHlo
open Cert.KernelIdeal Cert.KernelIdeal.Gen

/-- The identity matrix of four rows. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- Four copies of the transposed logit weights down the diagonal. -/
def blkA (w : FVec Ideal S18x14 .f32) : FVec Ideal S56x72 .f32 :=
  shapeCast S56x72 (mulf
    (broadcastInDim S4x14x4x18 ![0, 1, 2, 3] bcast_S4x1x4x1_S4x14x4x18_0_1_2_3 (broadcastInDim S4x1x4x1 ![0, 2] bcast_S4x4_S4x1x4x1_0_2 eye))
    (broadcastInDim S4x14x4x18 ![0, 1, 2, 3] bcast_S1x14x1x18_S4x14x4x18_0_1_2_3 (broadcastInDim S1x14x1x18 ![1, 3] bcast_S14x18_S1x14x1x18_1_3 (transpose S14x18 [1, 0] w transposes_S18x14_S14x18_1_0))))
    shapeCasts_S4x14x4x18_S56x72

/-- Four copies of the transposed mixing weights down the diagonal. -/
def blkB (w : FVec Ideal S14x10 .f32) : FVec Ideal S40x56 .f32 :=
  shapeCast S40x56 (mulf
    (broadcastInDim S4x10x4x14 ![0, 1, 2, 3] bcast_S4x1x4x1_S4x10x4x14_0_1_2_3 (broadcastInDim S4x1x4x1 ![0, 2] bcast_S4x4_S4x1x4x1_0_2 eye))
    (broadcastInDim S4x10x4x14 ![0, 1, 2, 3] bcast_S1x10x1x14_S4x10x4x14_0_1_2_3 (broadcastInDim S1x10x1x14 ![1, 3] bcast_S10x14_S1x10x1x14_1_3 (transpose S10x14 [1, 0] w transposes_S14x10_S10x14_1_0))))
    shapeCasts_S4x10x4x14_S40x56

/-- The first limb. -/
def l1 {s : Shape} (w : FVec Ideal s .f32) : FVec Ideal s .f32 := extf .f32 (truncf .bf16 w bitsLt_bf16_f32) bitsLt_bf16_f32
/-- The second limb. -/
def l2 {s : Shape} (w : FVec Ideal s .f32) : FVec Ideal s .f32 := l1 (subf w (l1 w))
/-- The third limb. -/
def l3 {s : Shape} (w : FVec Ideal s .f32) : FVec Ideal s .f32 := subf (subf w (l1 w)) (l2 w)

/-- A block of zeros. -/
def zA : FVec Ideal S56x72 .f32 := broadcastInDim S56x72 ![] bcast_S_S56x72 (constant S_ .f32 0x00000000#32)
/-- A block of zeros. -/
def zB : FVec Ideal S40x56 .f32 := broadcastInDim S40x56 ![] bcast_S_S40x56 (constant S_ .f32 0x00000000#32)

/-- Three blocks side by side. -/
def row3 (a b c : FVec Ideal S56x72 .f32) : FVec Ideal S56x216 .f32 :=
  concatenate S56x216 1 [⟨S56x72, a⟩, ⟨S56x72, b⟩, ⟨S56x72, c⟩] concatenates_S56x72_S56x72_S56x72_S56x216_d1

/-- Four blocks side by side. -/
def row4 (a b c d : FVec Ideal S40x56 .f32) : FVec Ideal S40x224 .f32 :=
  concatenate S40x224 1 [⟨S40x56, a⟩, ⟨S40x56, b⟩, ⟨S40x56, c⟩, ⟨S40x56, d⟩] concatenates_S40x56_S40x56_S40x56_S40x56_S40x224_d1

/-- The matrix that mixes scores to logits. -/
def lhsA (w : FVec Ideal S18x14 .f32) : FVec Ideal S168x216 .bf16 :=
  truncf .bf16 (concatenate S168x216 0 [⟨S56x216, row3 (blkA (l1 w)) (blkA (l1 w)) (blkA (l1 w))⟩, ⟨S56x216, row3 (blkA (l2 w)) (blkA (l2 w)) zA⟩,
    ⟨S56x216, row3 (blkA (l3 w)) zA zA⟩] concatenates_S56x216_S56x216_S56x216_S168x216_d0) bitsLt_bf16_f32

/-- The matrix that mixes softmax rows to weights. -/
def lhsB (w : FVec Ideal S14x10 .f32) : FVec Ideal S80x224 .bf16 :=
  truncf .bf16 (concatenate S80x224 0 [⟨S40x224, row4 (blkB (l1 w)) (blkB (l2 w)) (blkB (l1 w)) (blkB (l1 w))⟩, ⟨S40x224, row4 (blkB (l3 w)) zB (blkB (l2 w)) zB⟩]
    concatenates_S40x224_S40x224_S80x224_d0) bitsLt_bf16_f32

variable (m : (ℓ : Loc nD τ sig) → Buf (Elt Ideal) ℓ)

set_option maxHeartbeats 4000000 in
theorem V_main_v2 (c : Dev nD) : V m c main_v2 = transpose S2x18x768x160 [0, 2, 1, 3] (Host.convertf (φ := .f32) .fp8e4m3 (m ((c.tc : Thread nD τ).loc main_arg0) : FVec Ideal S2x768x18x160 .f32) : FVec Ideal S2x768x18x160 .fp8e4m3) transposes_S2x768x18x160_S2x18x768x160_0_2_1_3 := by
  unfold V
  simp only [hostOps0, List.flatten_cons, List.flatten_nil, List.append_nil, List.cons_append, List.nil_append]
  after_results_simp <;> rfl

set_option maxHeartbeats 4000000 in
theorem V_main_v3 (c : Dev nD) : V m c main_v3 = transpose S2x18x768x160 [0, 2, 1, 3] (Host.convertf (φ := .f32) .fp8e4m3 (m ((c.tc : Thread nD τ).loc main_arg2) : FVec Ideal S2x768x18x160 .f32) : FVec Ideal S2x768x18x160 .fp8e4m3) transposes_S2x768x18x160_S2x18x768x160_0_2_1_3 := by
  unfold V
  simp only [hostOps0, List.flatten_cons, List.flatten_nil, List.append_nil, List.cons_append, List.nil_append]
  after_results_simp <;> rfl

set_option maxHeartbeats 4000000 in
theorem V_main_v4 (c : Dev nD) : V m c main_v4 = transpose S2x10x768x160 [0, 2, 1, 3] (m ((c.tc : Thread nD τ).loc main_arg4) : FVec Ideal S2x768x10x160 .fp8e4m3) transposes_S2x768x10x160_S2x10x768x160_0_2_1_3 := by
  unfold V
  simp only [hostOps0, List.flatten_cons, List.flatten_nil, List.append_nil, List.cons_append, List.nil_append]
  after_results_simp <;> rfl

set_option maxHeartbeats 4000000 in
theorem V_main_v5 (c : Dev nD) : V m c main_v5 = transpose S2x18x768 [0, 2, 1] (m ((c.tc : Thread nD τ).loc main_arg3) : FVec Ideal S2x768x18 .f32) transposes_S2x768x18_S2x18x768_0_2_1 := by
  unfold V
  simp only [hostOps0, List.flatten_cons, List.flatten_nil, List.append_nil, List.cons_append, List.nil_append]
  after_results_simp <;> rfl

set_option maxHeartbeats 4000000 in
theorem V_main_v9 (c : Dev nD) : V m c main_v9 = shapeCast S2x40x768 (broadcastInDim S1x2x4x10x1x768 ![0, 1, 2, 3, 4, 5] bcast_S1x2x1x10x1x768_S1x2x4x10x1x768_0_1_2_3_4_5
    (shapeCast S1x2x1x10x1x768 (transpose S2x10x768 [0, 2, 1] (m ((c.tc : Thread nD τ).loc main_arg5) : FVec Ideal S2x768x10 .f32) transposes_S2x768x10_S2x10x768_0_2_1) shapeCasts_S2x10x768_S1x2x1x10x1x768)) shapeCasts_S1x2x4x10x1x768_S2x40x768 := by
  unfold V
  simp only [hostOps0, List.flatten_cons, List.flatten_nil, List.append_nil, List.cons_append, List.nil_append]
  after_results_simp <;> rfl

set_option maxHeartbeats 4000000 in
theorem V_main_v60 (c : Dev nD) : V m c main_v60 = lhsA (m ((c.tc : Thread nD τ).loc main_arg6)) := by
  unfold V
  simp only [hostOps0, List.flatten_cons, List.flatten_nil, List.append_nil, List.cons_append, List.nil_append]
  after_results_simp <;> rfl

set_option maxHeartbeats 4000000 in
theorem V_main_v110 (c : Dev nD) : V m c main_v110 = lhsB (m ((c.tc : Thread nD τ).loc main_arg7)) := by
  unfold V
  simp only [hostOps0, List.flatten_cons, List.flatten_nil, List.append_nil, List.cons_append, List.nil_append]
  after_results_simp <;> rfl

end Cert.KernelIdeal.HostValues

end
-- ==== Proof.HostPoint.lean ====
/- The mixing matrices and the transposed arrays the host leaves, read at an index. -/
module

public import proofs.«01_k».proof.Proof.HostValues
public import Idealize.ShloMosaic.Lib.Pointwise

@[expose] public section

set_option maxRecDepth 16384

noncomputable section

namespace Cert.KernelIdeal.HostValues

open Idealize.ShloMosaic Idealize.ShloMosaic.TcCoe
open Cert.KernelIdeal Cert.KernelIdeal.Gen

theorem eye_apply (i j : Fin 4) : eye (ix2 i j) = if i = j then (1 : EReal) else 0 := by
  have hb : (cmpi .eq (addi (iotaInDim S4x4 32 0) (broadcastInDim S4x4 ![] bcast_S_S4x4 (constantI S_ 32 0#32))) (iotaInDim S4x4 32 1) : IVec S4x4 1) (ix2 i j)
      = if i = j then 1#1 else 0#1 := by revert i j; decide
  show ((((cmpi .eq (addi (iotaInDim S4x4 32 0) (broadcastInDim S4x4 ![] bcast_S_S4x4 (constantI S_ 32 0#32))) (iotaInDim S4x4 32 1) : IVec S4x4 1) (ix2 i j)).toNat : ℝ) : EReal) = _
  rw [hb]
  split_ifs <;> simp

theorem blkA_apply (w : FVec Ideal S18x14 .f32) (r : Fin 56) (k : Fin 72) :
    blkA w (ix2 r k) = eye (ix2 ⟨r.val / 14, by omega⟩ ⟨k.val / 18, by omega⟩) * w (ix2 ⟨k.val % 18, by omega⟩ ⟨r.val % 14, by omega⟩) := by
  unfold blkA
  generalize eye = E
  pointwise
  done

theorem blkB_apply (w : FVec Ideal S14x10 .f32) (r : Fin 40) (k : Fin 56) :
    blkB w (ix2 r k) = eye (ix2 ⟨r.val / 10, by omega⟩ ⟨k.val / 14, by omega⟩) * w (ix2 ⟨k.val % 14, by omega⟩ ⟨r.val % 10, by omega⟩) := by
  unfold blkB
  generalize eye = E
  pointwise
  done

theorem l1_eq {s : Shape} (w : FVec Ideal s .f32) : l1 w = w := rfl

theorem l2_zero {s : Shape} (w : FVec Ideal s .f32) (j : s.Idx) (h : ∃ r : ℝ, w j = (r : EReal)) : l2 w j = (0 : EReal) := by
  obtain ⟨r, hr⟩ := h
  show (w j - w j : EReal) = 0
  rw [hr, ← EReal.coe_sub, sub_self, EReal.coe_zero]

theorem l3_zero {s : Shape} (w : FVec Ideal s .f32) (j : s.Idx) (h : ∃ r : ℝ, w j = (r : EReal)) : l3 w j = (0 : EReal) := by
  show (w j - w j - l2 w j : EReal) = 0
  rw [l2_zero w j h]
  obtain ⟨r, hr⟩ := h
  rw [hr, ← EReal.coe_sub, sub_self, EReal.coe_zero, sub_zero]

theorem row3_apply (a b c : FVec Ideal S56x72 .f32) (r : Fin 56) (k : Fin 216) (h : k.val < 72) : row3 a b c (ix2 r k) = a (ix2 r ⟨k.val, h⟩) := by
  pointwise [row3]
  simp [h]

theorem row4_apply (a b c d : FVec Ideal S40x56 .f32) (r : Fin 40) (k : Fin 224) : row4 a b c d (ix2 r k)
    = if h : k.val < 56 then a (ix2 r ⟨k.val, h⟩) else if h1 : k.val < 112 then b (ix2 r ⟨k.val - 56, by omega⟩) else
      if h2 : k.val < 168 then c (ix2 r ⟨k.val - 112, by omega⟩) else d (ix2 r ⟨k.val - 168, by omega⟩) := by
  pointwise [row4]
  by_cases h : k.val < 56
  · simp [h]
  · by_cases h1 : k.val < 112
    · have e1 : k.val - 56 < 56 := by omega
      simp [h, h1, e1]
    · have e1 : ¬ k.val - 56 < 56 := by omega
      by_cases h2 : k.val < 168
      · have e2 : k.val - 56 - 56 < 56 := by omega
        have e3 : k.val - 56 - 56 = k.val - 112 := by omega
        have e4 : k.val - 112 < 56 := by omega
        simp only [h, h1, h2, e1, e3, e4, dite_true, dite_false]
      · have e2 : ¬ k.val - 56 - 56 < 56 := by omega
        have e3 : k.val - 56 - 56 - 56 = k.val - 168 := by omega
        simp [h, h1, h2, e1, e2, e3]

theorem lhsA_zero (w : FVec Ideal S18x14 .f32) (hw : ∀ i, ∃ r : ℝ, w i = (r : EReal)) (i : Fin 168) (k : Fin 216) (hk : k.val < 72)
    (hi : 56 ≤ i.val) : lhsA w (ix2 i k) = (0 : EReal) := by
  unfold lhsA
  generalize h1 : row3 (blkA (l1 w)) (blkA (l1 w)) (blkA (l1 w)) = A
  generalize h2 : row3 (blkA (l2 w)) (blkA (l2 w)) zA = B
  generalize h3 : row3 (blkA (l3 w)) zA zA = C
  have hB : ∀ r : Fin 56, B (ix2 r k) = (0 : EReal) := fun r => by
    rw [← h2, row3_apply _ _ _ _ _ hk, blkA_apply, l2_zero _ _ (hw _), mul_zero]
  have hC : ∀ r : Fin 56, C (ix2 r k) = (0 : EReal) := fun r => by
    rw [← h3, row3_apply _ _ _ _ _ hk, blkA_apply, l3_zero _ _ (hw _), mul_zero]
  pointwise
  have : ¬ i.val < 56 := by omega
  simp [this, hB, hC]

theorem lhsA_apply (w : FVec Ideal S18x14 .f32) (r : Fin 56) (k : Fin 72) :
    lhsA w (ix2 ⟨r.val, by omega⟩ ⟨k.val, by omega⟩) = (if r.val / 14 = k.val / 18 then (1 : EReal) else 0) * w (ix2 ⟨k.val % 18, by omega⟩ ⟨r.val % 14, by omega⟩) := by
  have h0 : row3 (blkA (l1 w)) (blkA (l1 w)) (blkA (l1 w)) (ix2 r ⟨k.val, by omega⟩) = (if r.val / 14 = k.val / 18 then (1 : EReal) else 0) * w (ix2 ⟨k.val % 18, by omega⟩ ⟨r.val % 14, by omega⟩) := by
    rw [row3_apply _ _ _ _ _ k.isLt, blkA_apply, eye_apply, l1_eq]
    simp only [Fin.mk.injEq]
  rw [← h0]
  unfold lhsA
  generalize row3 (blkA (l1 w)) (blkA (l1 w)) (blkA (l1 w)) = A
  generalize row3 (blkA (l2 w)) (blkA (l2 w)) zA = B
  generalize row3 (blkA (l3 w)) zA zA = C
  pointwise

theorem lhsB_zero (w : FVec Ideal S14x10 .f32) (hw : ∀ i, ∃ r : ℝ, w i = (r : EReal)) (i : Fin 80) (k : Fin 224) (hk : k.val < 112)
    (hi : 40 ≤ i.val ∨ 56 ≤ k.val) : lhsB w (ix2 i k) = (0 : EReal) := by
  unfold lhsB
  generalize h1 : row4 (blkB (l1 w)) (blkB (l2 w)) (blkB (l1 w)) (blkB (l1 w)) = A
  generalize h2 : row4 (blkB (l3 w)) zB (blkB (l2 w)) zB = B
  have hA : ∀ r : Fin 40, 56 ≤ k.val → A (ix2 r k) = (0 : EReal) := fun r h => by
    rw [← h1, row4_apply, dif_neg (by omega), dif_pos hk, blkB_apply, l2_zero _ _ (hw _), mul_zero]
  have hB : ∀ r : Fin 40, B (ix2 r k) = (0 : EReal) := fun r => by
    rw [← h2, row4_apply]
    split_ifs with h
    · rw [blkB_apply, l3_zero _ _ (hw _), mul_zero]
    · exact Ideal.ofBits_zero_f32
  pointwise
  by_cases h : i.val < 40
  · have : 56 ≤ k.val := by omega
    simp [h, hA _ this]
  · simp [h, hB]

theorem lhsB_apply (w : FVec Ideal S14x10 .f32) (r : Fin 40) (k : Fin 56) :
    lhsB w (ix2 ⟨r.val, by omega⟩ ⟨k.val, by omega⟩) = (if r.val / 10 = k.val / 14 then (1 : EReal) else 0) * w (ix2 ⟨k.val % 14, by omega⟩ ⟨r.val % 10, by omega⟩) := by
  have h0 : row4 (blkB (l1 w)) (blkB (l2 w)) (blkB (l1 w)) (blkB (l1 w)) (ix2 r ⟨k.val, by omega⟩) = (if r.val / 10 = k.val / 14 then (1 : EReal) else 0) * w (ix2 ⟨k.val % 14, by omega⟩ ⟨r.val % 10, by omega⟩) := by
    rw [row4_apply, dif_pos k.isLt, blkB_apply, eye_apply, l1_eq]
    simp only [Fin.mk.injEq]
  rw [← h0]
  unfold lhsB
  generalize row4 (blkB (l1 w)) (blkB (l2 w)) (blkB (l1 w)) (blkB (l1 w)) = A
  generalize row4 (blkB (l3 w)) zB (blkB (l2 w)) zB = B
  pointwise

variable (m : (ℓ : Loc nD τ sig) → Buf (Elt Ideal) ℓ)

theorem v2_apply (c : Dev nD) (b : Fin 2) (h : Fin 18) (i : Fin 768) (d : Fin 160) :
    V m c main_v2 (ix4 b h i d) = (m ((c.tc : Thread nD τ).loc main_arg0) : FVec Ideal S2x768x18x160 .f32) (ix4 b i h d) := by
  rw [V_main_v2]; generalize m ((c.tc : Thread nD τ).loc main_arg0) = x; pointwise

theorem v3_apply (c : Dev nD) (b : Fin 2) (h : Fin 18) (i : Fin 768) (d : Fin 160) :
    V m c main_v3 (ix4 b h i d) = (m ((c.tc : Thread nD τ).loc main_arg2) : FVec Ideal S2x768x18x160 .f32) (ix4 b i h d) := by
  rw [V_main_v3]; generalize m ((c.tc : Thread nD τ).loc main_arg2) = x; pointwise

theorem v4_apply (c : Dev nD) (b : Fin 2) (h : Fin 10) (i : Fin 768) (d : Fin 160) :
    V m c main_v4 (ix4 b h i d) = (m ((c.tc : Thread nD τ).loc main_arg4) : FVec Ideal S2x768x10x160 .fp8e4m3) (ix4 b i h d) := by
  rw [V_main_v4]; generalize m ((c.tc : Thread nD τ).loc main_arg4) = x; pointwise

theorem v5_apply (c : Dev nD) (b : Fin 2) (h : Fin 18) (i : Fin 768) :
    V m c main_v5 (ix3 b h i) = (m ((c.tc : Thread nD τ).loc main_arg3) : FVec Ideal S2x768x18 .f32) (ix3 b i h) := by
  rw [V_main_v5]; generalize m ((c.tc : Thread nD τ).loc main_arg3) = x; pointwise

theorem v9_apply (c : Dev nD) (b : Fin 2) (r : Fin 40) (j : Fin 768) :
    V m c main_v9 (ix3 b r j) = (m ((c.tc : Thread nD τ).loc main_arg5) : FVec Ideal S2x768x10 .f32) (ix3 b j ⟨r.val % 10, by omega⟩) := by
  rw [V_main_v9]; generalize m ((c.tc : Thread nD τ).loc main_arg5) = x; pointwise
  done

end Cert.KernelIdeal.HostValues

end
-- ==== Proof.RefValue.lean ====
/- What the reference computes, at the ideal values: its scores, its logits, their softmax and its result, with its run. -/
module

public import proofs.«01_k».proof.Proof.Gen.ReferenceIdeal.Frame
public import Idealize.ShloMosaic.Lib.StableHlo.Run
public import Idealize.ShloMosaic.Lib.Pipeline.FrameSuffix
public import Idealize.ShloMosaic.Lib.Pointwise

@[expose] public section

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen

/-- The scores: batch, head, query, key. -/
def rS (q k : FVec Ideal S2x768x18x160 .f32) (qs ks : FVec Ideal S2x768x18 .f32) : FVec Ideal S2x18x768x768 .f32 :=
  mulf (mulf (mulf (Host.dotGeneral dot_S2x768x18x160_S2x768x18x160_S2x18x768x768_3_3_1_1_02_02 none q k)
      (broadcastInDim S2x18x768x768 ![0, 1, 2, 3] bcast_S2x18x768x1_S2x18x768x768_0_1_2_3 (broadcastInDim S2x18x768x1 ![0, 1, 2] bcast_S2x18x768_S2x18x768x1_0_1_2 (transpose S2x18x768 [0, 2, 1] qs transposes_S2x768x18_S2x18x768_0_2_1))))
      (broadcastInDim S2x18x768x768 ![0, 1, 2, 3] bcast_S2x18x1x768_S2x18x768x768_0_1_2_3 (broadcastInDim S2x18x1x768 ![0, 1, 3] bcast_S2x18x768_S2x18x1x768_0_1_3 (transpose S2x18x768 [0, 2, 1] ks transposes_S2x768x18_S2x18x768_0_2_1))))
    (broadcastInDim S2x18x768x768 ![] bcast_S_S2x18x768x768 (Host.divf (constant S_ .f32 0x3F800000#32) (Host.sqrt (constant S_ .f32 0x43200000#32))))

/-- The logits: batch, softmax head, query, key. -/
def rL (w : FVec Ideal S18x14 .f32) (s : FVec Ideal S2x18x768x768 .f32) : FVec Ideal S2x14x768x768 .f32 :=
  transpose S2x14x768x768 [1, 0, 2, 3] (Host.dotGeneral (φ₁ := .f32) (φ₂ := .f32) dot_S18x14_S2x18x768x768_S14x2x768x768_0_1_1_023_n_n (some .fp32) w s) transposes_S14x2x768x768_S2x14x768x768_1_0_2_3

/-- The exponentials of the logits less their rows' greatest. -/
def rE (l : FVec Ideal S2x14x768x768 .f32) : FVec Ideal S2x14x768x768 .f32 :=
  Host.exp (subf l (broadcastInDim S2x14x768x768 ![0, 1, 2, 3] bcast_S2x14x768x1_S2x14x768x768_0_1_2_3 (broadcastInDim S2x14x768x1 ![0, 1, 2] bcast_S2x14x768_S2x14x768x1_0_1_2 (maximumf (broadcastInDim S2x14x768 ![] bcast_S_S2x14x768 (constant S_ .f32 0xFF800000#32)) (Host.reduce FloatOps.maximumf l (constant (F := Ideal) S_ .f32 0xFF800000#32) reducesTo_S2x14x768x768_S2x14x768_d3 h_S_)))))

/-- The softmax of the logits. -/
def rA (l : FVec Ideal S2x14x768x768 .f32) : FVec Ideal S2x14x768x768 .f32 :=
  Host.divf (rE l) (broadcastInDim S2x14x768x768 ![0, 1, 2, 3] bcast_S2x14x768x1_S2x14x768x768_0_1_2_3 (broadcastInDim S2x14x768x1 ![0, 1, 2] bcast_S2x14x768_S2x14x768x1_0_1_2 (Host.reduceAdd (rE l) (constant S_ .f32 0x00000000#32) reducesTo_S2x14x768x768_S2x14x768_d3 h_S_)))

/-- The result from the softmax. -/
def rO (v : FVec Ideal S2x768x10x160 .bf16) (w : FVec Ideal S14x10 .f32) (vs : FVec Ideal S2x768x10 .f32) (a : FVec Ideal S2x14x768x768 .f32) : FVec Ideal S2x768x1600 .bf16 :=
  truncf .bf16 (shapeCast _ (transpose S2x768x10x160 [0, 3, 1, 2] (Host.dotGeneral (φ₁ := .bf16) (φ₂ := .bf16) dot_S2x768x10x160_S2x10x768x768_S2x10x160x768_1_3_3_2_02_01 none v
    (truncf .bf16 (mulf (transpose S2x10x768x768 [1, 0, 2, 3] (Host.dotGeneral (φ₁ := .f32) (φ₂ := .f32) dot_S14x10_S2x14x768x768_S10x2x768x768_0_1_1_023_n_n (some .fp32) w a) transposes_S10x2x768x768_S2x10x768x768_1_0_2_3)
      (broadcastInDim S2x10x768x768 ![0, 1, 2, 3] bcast_S2x10x1x768_S2x10x768x768_0_1_2_3 (broadcastInDim S2x10x1x768 ![0, 1, 3] bcast_S2x10x768_S2x10x1x768_0_1_3 (transpose S2x10x768 [0, 2, 1] vs transposes_S2x768x10_S2x10x768_0_2_1)))) bitsLt_bf16_f32)) transposes_S2x10x160x768_S2x768x10x160_0_3_1_2) shapeCasts_S2x768x10x160_S2x768x1600) bitsLt_bf16_f32

variable (m : (ℓ : Loc nD τ sig) → Buf (Elt Ideal) ℓ)

/-- Core `c`'s TensorCore buffer contents when the region is left: the arrays of its pipeline at what the proof data give
    after the last point, every other buffer as the region found it. -/
abbrev exitV (c : Dev nD) : Valuation τ sig (Elt Ideal) :=
  Pipeline.withArrays spec0 c (Gen.V0 m c) fun w => (Gen.dats m 0 c).arrAt w cfg0.N

/-- What the kernel region leaves in its result array `main_v2_0` (window 3's). -/
def reg_main_v2_0 (c : Dev nD) : Buf (Elt Ideal) ((c.tc : Thread nD τ).loc main_v2_0) := (Gen.dats m 0 c).arrAt 3 cfg0.N
/-- What the kernel region leaves in its result array `main_v2_1` (window 4's). -/
def reg_main_v2_1 (c : Dev nD) : Buf (Elt Ideal) ((c.tc : Thread nD τ).loc main_v2_1) := (Gen.dats m 0 c).arrAt 4 cfg0.N
/-- What the kernel region leaves in its result array `main_v2_2` (window 5's). -/
def reg_main_v2_2 (c : Dev nD) : Buf (Elt Ideal) ((c.tc : Thread nD τ).loc main_v2_2) := (Gen.dats m 0 c).arrAt 5 cfg0.N

/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at argument `main_arg6`: as launched. -/
theorem exit_main_arg6 (c : Dev nD) : exitV m c (Proc.devRef .tc main_arg6) = m ((c.tc : Thread nD τ).loc main_arg6) :=
  (Pipeline.withArrays_of_ne _ c (Gen.V0 m c) _ main_arg6 (by exact (by decide : ∀ w, Pipeline.arrRef spec0 w ≠ main_arg6))).trans (Gen.V_main_arg6 m c)
/-- The exit contents at argument `main_arg7`: as launched. -/
theorem exit_main_arg7 (c : Dev nD) : exitV m c (Proc.devRef .tc main_arg7) = m ((c.tc : Thread nD τ).loc main_arg7) :=
  (Pipeline.withArrays_of_ne _ c (Gen.V0 m c) _ main_arg7 (by exact (by decide : ∀ w, Pipeline.arrRef spec0 w ≠ main_arg7))).trans (Gen.V_main_arg7 m c)
/-- The exit contents at the region's result array `main_v2_0`. -/
theorem exit_main_v2_0 (c : Dev nD) : exitV m c (Proc.devRef .tc main_v2_0) = reg_main_v2_0 m c :=
  Pipeline.withArrays_arr spec0 Gen.launch0.win.arr_inj c (Gen.V0 m c) _ 3
/-- The exit contents at the region's result array `main_v2_1`. -/
theorem exit_main_v2_1 (c : Dev nD) : exitV m c (Proc.devRef .tc main_v2_1) = reg_main_v2_1 m c :=
  Pipeline.withArrays_arr spec0 Gen.launch0.win.arr_inj c (Gen.V0 m c) _ 4
/-- The exit contents at the region's result array `main_v2_2`. -/
theorem exit_main_v2_2 (c : Dev nD) : exitV m c (Proc.devRef .tc main_v2_2) = reg_main_v2_2 m c :=
  Pipeline.withArrays_arr spec0 Gen.launch0.win.arr_inj c (Gen.V0 m c) _ 5

/-- The result, of the codes the region leaves and the arguments. -/
def value (c : Dev nD) : Buf (Elt Ideal) ((c.tc : Thread nD τ).loc main_v39) :=
  rO (reg_main_v2_2 m c) (m ((c.tc : Thread nD τ).loc main_arg7)) (m ((c.tc : Thread nD τ).loc main_arg5))
    (rA (rL (m ((c.tc : Thread nD τ).loc main_arg6)) (rS (reg_main_v2_0 m c) (reg_main_v2_1 m c) (m ((c.tc : Thread nD τ).loc main_arg1)) (m ((c.tc : Thread nD τ).loc main_arg3)))))

set_option maxHeartbeats 2000000 in
/-- The later operations from any contents `V0`, read at the result. -/
theorem tail_value (V0 : Valuation τ sig (Elt Ideal)) :
    after (List.flatten [Gen.hostOps1]) V0 (Proc.devRef .tc main_v39) =
      rO (V0 (Proc.devRef .tc main_v2_2)) (V0 (Proc.devRef .tc main_arg7)) (V0 (Proc.devRef .tc main_arg5))
        (rA (rL (V0 (Proc.devRef .tc main_arg6)) (rS (V0 (Proc.devRef .tc main_v2_0)) (V0 (Proc.devRef .tc main_v2_1)) (V0 (Proc.devRef .tc main_arg1)) (V0 (Proc.devRef .tc main_arg3))))) := by
  unfold rO rA rE rL rS
  simp only [Gen.hostOps1, List.flatten_cons, List.flatten_nil, List.append_nil, List.cons_append, List.nil_append]
  after_results_simp <;> rfl

/-- The result after the later operations from the region's exit contents. -/
theorem fin_value (c : Dev nD) :
    Pipeline.afterTail₀ cfgs (Gen.dats m) 0 (Gen.V0 m) [Gen.hostOps1] c main_v39 = value m c := by
  refine (tail_value (exitV m c)).trans ?_
  rw [exit_main_arg1 m c, exit_main_arg3 m c, exit_main_arg5 m c, exit_main_arg6 m c, exit_main_arg7 m c, exit_main_v2_0 m c, exit_main_v2_1 m c, exit_main_v2_2 m c]
  rfl

/-- On every device, at the ideal values, from any memory with zero counters: every weakly fair execution of
    @main terminates with each result at the later operations' composed term of the arguments and the region's
    outputs, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v39) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v39 (Pipeline.mem_restRefs_of main_v39 (by decide) (by decide))).trans (fin_value m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).1 2).trans (((Gen.dats m 0 c).arrAt_in 2 rfl _).trans ((Gen.A_eq m c 2).trans (Gen.V_main_arg4 m c))),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c)⟩) (Gen.run_main m ρ)

end Cert.ReferenceIdeal.RefValue

end
-- ==== Proof.RefPoint.lean ====
/- What the reference computes, at the ideal values: its scores, its logits, their softmax and its result, read at an
   index. -/
module

public import proofs.«01_k».proof.Proof.RefValue
public import Idealize.ShloMosaic.Lib.Pointwise

@[expose] public section

set_option maxRecDepth 16384

noncomputable section

namespace Cert.ReferenceIdeal.RefValue

open Idealize.ShloMosaic Idealize.ShloMosaic.TcCoe
open Cert.ReferenceIdeal Cert.ReferenceIdeal.Gen

theorem rS_apply (q k : FVec Ideal S2x768x18x160 .f32) (qs ks : FVec Ideal S2x768x18 .f32) (b : Fin 2) (h : Fin 18) (i j : Fin 768) :
    rS q k qs ks (ix4 b h i j) = (∑ d : Fin 160, q (ix4 b i h d) * k (ix4 b j h d)) * qs (ix3 b i h) * ks (ix3 b j h)
      * Ideal.div 1 (Ideal.sqrt (Ideal.ofBits .f32 0x43200000#32)) := by
  pointwise [rS]

theorem rL_apply (w : FVec Ideal S18x14 .f32) (s : FVec Ideal S2x18x768x768 .f32) (b : Fin 2) (g : Fin 14) (i j : Fin 768) :
    rL w s (ix4 b g i j) = ∑ h : Fin 18, w (ix2 h g) * s (ix4 b h i j) := by
  unfold rL
  generalize ht : transposes_S14x2x768x768_S2x14x768x768_1_0_2_3 = ht'
  generalize hd : Host.dotGeneral (φ₁ := .f32) (φ₂ := .f32) dot_S18x14_S2x18x768x768_S14x2x768x768_0_1_1_023_n_n (some .fp32) w s = D
  have h1 : transpose S2x14x768x768 [1, 0, 2, 3] D ht' (ix4 b g i j) = D (ix4 g b i j) := by pointwise
  rw [h1, ← hd]
  pointwise
theorem red_apply (l : FVec Ideal S2x14x768x768 .f32) (b : Fin 2) (g : Fin 14) (i : Fin 768) (e : Ideal .f32) :
    Host.reduce FloatOps.maximumf l (fun _ => e : S_.Idx → Ideal .f32) reducesTo_S2x14x768x768_S2x14x768_d3 h_S_ (ix3 b g i)
      = Finset.univ.fold max (e : EReal) fun k : Fin 768 => (l (ix4 b g i k) : EReal) := by
  refine (Host.reduce_eq_fold (FloatOps.maximumf : Ideal .f32 → Ideal .f32 → Ideal .f32) l _ reducesTo_S2x14x768x768_S2x14x768_d3 h_S_ (ix3 b g i)).trans ?_
  exact Shape.ReducesTo.fold_fiber_r4_a3 reducesTo_S2x14x768x768_S2x14x768_d3 (ix3 b g i) _ _ l

theorem ofBits_negInf : Ideal.ofBits .f32 0xFF800000#32 = ⊥ := by simp [Ideal.ofBits, Ideal.ieee]

theorem rE_of (l : FVec Ideal S2x14x768x768 .f32) (e : EReal) (R : FVec Ideal S2x14x768 .f32) (b : Fin 2) (g : Fin 14) (i j : Fin 768) :
    Host.exp (subf l (broadcastInDim S2x14x768x768 ![0, 1, 2, 3] bcast_S2x14x768x1_S2x14x768x768_0_1_2_3 (broadcastInDim S2x14x768x1 ![0, 1, 2] bcast_S2x14x768_S2x14x768x1_0_1_2 (maximumf (broadcastInDim S2x14x768 ![] bcast_S_S2x14x768 (fun _ => e : FVec Ideal S_ .f32)) R)))) (ix4 b g i j)
      = Ideal.exp (l (ix4 b g i j) - max e (R (ix3 b g i))) := by
  have hm : ∀ (x : FVec Ideal S2x14x768 .f32), broadcastInDim S2x14x768x768 ![0, 1, 2, 3] bcast_S2x14x768x1_S2x14x768x768_0_1_2_3 (broadcastInDim S2x14x768x1 ![0, 1, 2] bcast_S2x14x768_S2x14x768x1_0_1_2 x) (ix4 b g i j) = x (ix3 b g i) := fun x => by
    pointwise
  exact congrArg (fun t : EReal => Ideal.exp (l (ix4 b g i j) - t)) (hm _)

theorem rE_apply (l : FVec Ideal S2x14x768x768 .f32) (b : Fin 2) (g : Fin 14) (i j : Fin 768) :
    rE l (ix4 b g i j) = Ideal.exp (l (ix4 b g i j) - Finset.univ.fold max ⊥ fun k : Fin 768 => (l (ix4 b g i k) : EReal)) := by
  have hc : constant (F := Ideal) S_ .f32 0xFF800000#32 = fun _ => (⊥ : EReal) := funext fun _ => ofBits_negInf
  unfold rE
  rw [hc, rE_of, red_apply, max_eq_right bot_le]

theorem rA_apply (l : FVec Ideal S2x14x768x768 .f32) (b : Fin 2) (g : Fin 14) (i j : Fin 768) :
    rA l (ix4 b g i j) = Ideal.div (rE l (ix4 b g i j)) (∑ k : Fin 768, rE l (ix4 b g i k)) := by
  unfold rA
  generalize rE l = E
  pointwise

theorem rO_apply (v : FVec Ideal S2x768x10x160 .bf16) (w : FVec Ideal S14x10 .f32) (vs : FVec Ideal S2x768x10 .f32) (a : FVec Ideal S2x14x768x768 .f32)
    (b : Fin 2) (i : Fin 768) (n : Fin 1600) :
    rO v w vs a (ix3 b i n) = ∑ j : Fin 768, v (ix4 b j ⟨n.val / 160, by omega⟩ ⟨n.val % 160, by omega⟩)
      * ((∑ g : Fin 14, w (ix2 g ⟨n.val / 160, by omega⟩) * a (ix4 b g i j)) * vs (ix3 b j ⟨n.val / 160, by omega⟩)) := by
  pointwise [rO]

end Cert.ReferenceIdeal.RefValue

end
-- ==== Proof.Region.lean ====
/- The reference's decoding call leaves the three code arrays as they are: at the ideal values a code is its value. -/
module

public import proofs.«01_k».proof.Proof.RefValue
public import Idealize.ShloMosaic.Lib.Pipeline.Value

@[expose] public section

set_option maxRecDepth 16384

noncomputable section

namespace Cert.ReferenceIdeal.RefValue

open Idealize.ShloMosaic Idealize.ShloMosaic.TcCoe Idealize.SL.Sem Idealize.ShloMosaic.StableHlo
open Idealize.ShloMosaic.Pipeline (Dat Cfg Window)
open Cert.ReferenceIdeal Cert.ReferenceIdeal.Gen

variable (m : (ℓ : Loc nD τ sig) → Buf (Elt Ideal) ℓ)

theorem V_main_v0 (c : Dev nD) : Gen.V m c main_v0 = (Host.convertf (F := Ideal) (s := S2x768x18x160) (φ := .f32) .fp8e4m3 (m ((c.tc : Thread nD τ).loc main_arg0) : FVec Ideal S2x768x18x160 .f32) : FVec Ideal S2x768x18x160 .fp8e4m3) := by
  unfold Gen.V Gen.V0
  simp only [hostOps0, List.flatten_cons, List.flatten_nil, List.append_nil, List.cons_append, List.nil_append]
  after_results_simp <;> rfl

theorem V_main_v1 (c : Dev nD) : Gen.V m c main_v1 = (Host.convertf (F := Ideal) (s := S2x768x18x160) (φ := .f32) .fp8e4m3 (m ((c.tc : Thread nD τ).loc main_arg2) : FVec Ideal S2x768x18x160 .f32) : FVec Ideal S2x768x18x160 .fp8e4m3) := by
  unfold Gen.V Gen.V0
  simp only [hostOps0, List.flatten_cons, List.flatten_nil, List.append_nil, List.cons_append, List.nil_append]
  after_results_simp <;> rfl

theorem zeros4 : (![0, 0, 0, 0] : Fin 4 → ℕ) = fun _ => 0 := by funext a; fin_cases a <;> rfl

theorem read_3 (t : Fin cfg0.N) (G : FVec Ideal S2x768x18x160 .f32) : ((cfg0.win 3).blk t).view.read (Elt Ideal) G = G := by
  funext j
  rw [View.read_apply]
  refine congrArg G (funext fun a => Fin.ext ?_)
  show 0 * _ + 1 * (j a).val = (j a).val
  omega

theorem iblk_0 (c : Dev nD) (t : Fin cfg0.N) : (Gen.iblk m c 0 t : FVec Ideal S2x768x18x160 .fp8e4m3) = Gen.V m c main_v0 := by
  unfold Gen.iblk
  funext j
  rw [View.read_apply]
  refine congrArg (Gen.V m c main_v0) (funext fun a => Fin.ext ?_)
  show 0 * _ + 1 * (j a).val = (j a).val
  omega

theorem cover_3 (i : S2x768x18x160.Idx) : ∃ t : Fin cfg0.N, (cfg0.win 3).flush t = true ∧ i ∈ ((cfg0.win 3).blk t).view.set := by
  refine ⟨⟨0, by decide⟩, flush0_3 _, ?_⟩
  refine Finset.mem_map.mpr ⟨i, Finset.mem_univ _, funext fun a => Fin.ext ?_⟩
  show 0 * _ + 1 * (i a).val = (i a).val
  omega

theorem reg_3 (c : Dev nD) : (reg_main_v2_0 m c : FVec Ideal S2x768x18x160 .f32) = (m ((c.tc : Thread nD τ).loc main_arg0) : FVec Ideal S2x768x18x160 .f32) := by
  refine (Gen.dats m 0 c).arrAt_eq_of_cover 3 _ (fun t _ => ?_) cover_3
  refine Eq.trans ?_ (read_3 t _).symm
  show (cfg0.win 3).cut (grid0.coords t) ((Gen.dats m 0 c).after 3 t) = _
  rw [Gen.after0_3]
  unfold Gen.out0_3
  rw [View.canon_unit_zero zeros4, View.ld_unit_zero zeros4, iblk_0, V_main_v0]
  funext j
  show k0_pay1 _ _ = _
  exact congrArg (m ((c.tc : Thread nD τ).loc main_arg0) : FVec Ideal S2x768x18x160 .f32) (Shape.reshapeEquiv_eq_of_rowMajor _ rfl)

theorem read_4 (t : Fin cfg0.N) (G : FVec Ideal S2x768x18x160 .f32) : ((cfg0.win 4).blk t).view.read (Elt Ideal) G = G := by
  funext j
  rw [View.read_apply]
  refine congrArg G (funext fun a => Fin.ext ?_)
  show 0 * _ + 1 * (j a).val = (j a).val
  omega

theorem iblk_1 (c : Dev nD) (t : Fin cfg0.N) : (Gen.iblk m c 1 t : FVec Ideal S2x768x18x160 .fp8e4m3) = Gen.V m c main_v1 := by
  unfold Gen.iblk
  funext j
  rw [View.read_apply]
  refine congrArg (Gen.V m c main_v1) (funext fun a => Fin.ext ?_)
  show 0 * _ + 1 * (j a).val = (j a).val
  omega

theorem cover_4 (i : S2x768x18x160.Idx) : ∃ t : Fin cfg0.N, (cfg0.win 4).flush t = true ∧ i ∈ ((cfg0.win 4).blk t).view.set := by
  refine ⟨⟨0, by decide⟩, flush0_4 _, ?_⟩
  refine Finset.mem_map.mpr ⟨i, Finset.mem_univ _, funext fun a => Fin.ext ?_⟩
  show 0 * _ + 1 * (i a).val = (i a).val
  omega

theorem reg_4 (c : Dev nD) : (reg_main_v2_1 m c : FVec Ideal S2x768x18x160 .f32) = (m ((c.tc : Thread nD τ).loc main_arg2) : FVec Ideal S2x768x18x160 .f32) := by
  refine (Gen.dats m 0 c).arrAt_eq_of_cover 4 _ (fun t _ => ?_) cover_4
  refine Eq.trans ?_ (read_4 t _).symm
  show (cfg0.win 4).cut (grid0.coords t) ((Gen.dats m 0 c).after 4 t) = _
  rw [Gen.after0_4]
  unfold Gen.out0_4
  rw [View.canon_unit_zero zeros4, View.ld_unit_zero zeros4, iblk_1, V_main_v1]
  funext j
  show k0_pay2 _ _ = _
  exact congrArg (m ((c.tc : Thread nD τ).loc main_arg2) : FVec Ideal S2x768x18x160 .f32) (Shape.reshapeEquiv_eq_of_rowMajor _ rfl)

theorem read_5 (t : Fin cfg0.N) (G : FVec Ideal S2x768x10x160 .bf16) : ((cfg0.win 5).blk t).view.read (Elt Ideal) G = G := by
  funext j
  rw [View.read_apply]
  refine congrArg G (funext fun a => Fin.ext ?_)
  show 0 * _ + 1 * (j a).val = (j a).val
  omega

theorem iblk_2 (c : Dev nD) (t : Fin cfg0.N) : (Gen.iblk m c 2 t : FVec Ideal S2x768x10x160 .fp8e4m3) = Gen.V m c main_arg4 := by
  unfold Gen.iblk
  funext j
  rw [View.read_apply]
  refine congrArg (Gen.V m c main_arg4) (funext fun a => Fin.ext ?_)
  show 0 * _ + 1 * (j a).val = (j a).val
  omega

theorem cover_5 (i : S2x768x10x160.Idx) : ∃ t : Fin cfg0.N, (cfg0.win 5).flush t = true ∧ i ∈ ((cfg0.win 5).blk t).view.set := by
  refine ⟨⟨0, by decide⟩, flush0_5 _, ?_⟩
  refine Finset.mem_map.mpr ⟨i, Finset.mem_univ _, funext fun a => Fin.ext ?_⟩
  show 0 * _ + 1 * (i a).val = (i a).val
  omega

theorem reg_5 (c : Dev nD) : (reg_main_v2_2 m c : FVec Ideal S2x768x10x160 .bf16) = (m ((c.tc : Thread nD τ).loc main_arg4) : FVec Ideal S2x768x10x160 .fp8e4m3) := by
  refine (Gen.dats m 0 c).arrAt_eq_of_cover 5 _ (fun t _ => ?_) cover_5
  refine Eq.trans ?_ (read_5 t _).symm
  show (cfg0.win 5).cut (grid0.coords t) ((Gen.dats m 0 c).after 5 t) = _
  rw [Gen.after0_5]
  unfold Gen.out0_5
  rw [View.canon_unit_zero zeros4, View.ld_unit_zero zeros4, iblk_2, Gen.V_main_arg4]
  funext j
  show k0_pay3 _ _ = _
  exact congrArg (m ((c.tc : Thread nD τ).loc main_arg4) : FVec Ideal S2x768x10x160 .fp8e4m3) rfl

end Cert.ReferenceIdeal.RefValue

end
-- ==== Proof.Equation.lean ====
/- The body's pieces put together at the ideal values: from finite scores, the logits, their softmax, the weights and the
   result's block, each as one sum. Then, on finite queries, keys, their scales and the two mixing matrices, the kernel's result is the
   reference's. -/
module

public import proofs.«01_k».proof.Proof.Out
public import proofs.«01_k».proof.Proof.Spec
public import proofs.«01_k».proof.Proof.KernelPoint
public import proofs.«01_k».proof.Proof.OutPoint
public import proofs.«01_k».proof.Proof.Softmax
public import proofs.«01_k».proof.Proof.HostPoint
public import proofs.«01_k».proof.Proof.RefPoint
public import proofs.«01_k».proof.Proof.Region
public import Idealize.ShloMosaic.Lib.Pointwise
public import Idealize.ShloMosaic.Lib.Pointwise.IndexBridge

@[expose] public section

set_option maxRecDepth 16384

noncomputable section

namespace Cert.KernelIdeal.Point

open Idealize.ShloMosaic
open Cert.KernelIdeal Cert.KernelIdeal.Gen Cert.Softmax

/-! ## One block of a sum over a diagonal of blocks -/

/-- A sum over `J` blocks of `T` that keeps one block only. -/
theorem sum_block {J T N : ℕ} (hN : J * T = N) (a : Fin J) (f : Fin N → EReal) (g : Fin T → EReal)
    (h : ∀ (k : Fin N) (t : Fin T), k.val = a.val * T + t.val → f k = g t)
    (h0 : ∀ k : Fin N, k.val / T ≠ a.val → f k = 0) : ∑ k : Fin N, f k = ∑ t : Fin T, g t := by
  rw [Fin.sum_univ_tiles J T hN f, Finset.sum_eq_single a]
  · exact Finset.sum_congr rfl fun t _ => h _ t rfl
  · intro b _ hb
    refine Finset.sum_eq_zero fun t _ => h0 _ ?_
    have hT : 0 < T := lt_of_le_of_lt (Nat.zero_le _) t.isLt
    show (b.val * T + t.val) / T ≠ a.val
    rw [Nat.add_comm, Nat.add_mul_div_right _ _ hT, Nat.div_eq_of_lt t.isLt, Nat.zero_add]
    exact fun e => hb (Fin.ext e)
  · intro hn; exact absurd (Finset.mem_univ a) hn

/-- A common finite factor comes out of a finite sum. -/
theorem sum_mul_fin {ι : Type} (s : Finset ι) (f : ι → EReal) (h : ∀ i, Fin' (f i)) (c : ℝ) :
    ∑ i ∈ s, f i * (c : EReal) = (∑ i ∈ s, f i) * (c : EReal) := by
  choose g hg using h
  simp only [hg]
  rw [← coe_sum, ← EReal.coe_mul, Finset.sum_mul, coe_sum]
  exact Finset.sum_congr rfl fun i _ => (EReal.coe_mul _ _).symm

/-! ## The scores -/

/-- A score as the body computes it. -/
def sc (x0 : Vec Ideal S1x18x256x160 .fp8e4m3) (x1 : Vec Ideal S1x18x768x160 .fp8e4m3) (x3 : Vec Ideal S1x256x18 .f32)
    (x4 : Vec Ideal S1x18x768 .f32) (h : Fin 18) (i : Fin 256) (j : Fin 768) : EReal :=
  (∑ d : Fin 160, x0 (ix4 0 h i d) * x1 (ix4 0 h j d)) * (x3 (ix3 0 i h) * scale) * x4 (ix3 0 h j)

theorem score_apply (x0 : Vec Ideal S1x18x256x160 .fp8e4m3) (x1 : Vec Ideal S1x18x768x160 .fp8e4m3) (x3 : Vec Ideal S1x256x18 .f32)
    (x4 : Vec Ideal S1x18x768 .f32) (h : Fin 18) (i : Fin 256) (j : Fin 768) :
    Spec.score x0 x1 x3 x4 h (ix2 i j) = sc x0 x1 x3 x4 h i j := by
  have e0 : ∀ i d, Spec.qh x0 h (ix4 0 0 i d) = x0 (ix4 0 h i d) := fun i d => by
    show x0 (ValueIdx.ix4 0 h i d) = _; rw [← ix4_eq_valueIdx]
  have e1 : ∀ i d, Spec.kh x1 h (ix4 0 0 i d) = x1 (ix4 0 h i d) := fun i d => by
    show x1 (ValueIdx.ix4 0 h i d) = _; rw [← ix4_eq_valueIdx]
  have e3 : Spec.qsh x3 h (ix3 0 i 0) = x3 (ix3 0 i h) := by
    show x3 (ValueIdx.ix3 0 i h) = _; rw [← ix3_eq_valueIdx]
  have e4 : Spec.ksh x4 h (ix3 0 0 j) = x4 (ix3 0 h j) := by
    show x4 (ValueIdx.ix3 0 h j) = _; rw [← ix3_eq_valueIdx]
  unfold Spec.score
  rw [pay60_apply, e3, e4]
  simp only [e0, e1]
  rfl

theorem scores_apply (x0 : Vec Ideal S1x18x256x160 .fp8e4m3) (x1 : Vec Ideal S1x18x768x160 .fp8e4m3) (x3 : Vec Ideal S1x256x18 .f32)
    (x4 : Vec Ideal S1x18x768 .f32) (c : Fin 6) (r : Fin 4608) (l : Fin 128) (h : Fin 18) (i : Fin 256) (j : Fin 768)
    (hr : r.val = 18 * i.val + h.val) (hj : j.val = 128 * c.val + l.val) :
    Spec.scores x0 x1 x3 x4 (ix3 c r l) = sc x0 x1 x3 x4 h i j := by
  rw [← score_apply]
  have eh : (⟨r.val % 18, Nat.mod_lt _ (by decide)⟩ : Fin 18) = h := Fin.ext (by show r.val % 18 = h.val; omega)
  have ei : (⟨r.val / 18, by omega⟩ : Fin 256) = i := Fin.ext (by show r.val / 18 = i.val; omega)
  have ej : (⟨128 * c.val + l.val, by omega⟩ : Fin 768) = j := Fin.ext hj.symm
  show Spec.score x0 x1 x3 x4 ⟨r.val % 18, _⟩ (ValueIdx.ix2 ⟨r.val / 18, _⟩ ⟨128 * c.val + l.val, _⟩) = _
  rw [← ix2_eq_valueIdx]
  exact congr (congrArg _ eh) (congr (congrArg ix2 ei) ej)

/-! ## The logits -/

theorem pair_slab (x0 : Vec Ideal S1x18x256x160 .fp8e4m3) (x1 : Vec Ideal S1x18x768x160 .fp8e4m3) (x3 : Vec Ideal S1x256x18 .f32)
    (x4 : Vec Ideal S1x18x768 .f32) (t : Fin 64) (cc : Fin 3) (k : Fin 72) (l : Fin 256) :
    pair (Spec.slab (Spec.scores x0 x1 x3 x4) t ⟨2 * cc.val, by omega⟩) (Spec.slab (Spec.scores x0 x1 x3 x4) t ⟨2 * cc.val + 1, by omega⟩) (ix2 k l)
      = sc x0 x1 x3 x4 ⟨k.val % 18, by omega⟩ ⟨4 * t.val + k.val / 18, by omega⟩ ⟨256 * cc.val + l.val, by omega⟩ := by
  rw [pair_apply]
  split_ifs with h
  · show Spec.scores x0 x1 x3 x4 (ValueIdx.ix3 ⟨2 * cc.val, _⟩ ⟨72 * t.val + k.val, _⟩ ⟨l.val, _⟩) = _
    rw [← ix3_eq_valueIdx]
    exact scores_apply _ _ _ _ _ _ _ _ _ _ (by show 72 * t.val + k.val = 18 * (4 * t.val + k.val / 18) + k.val % 18; omega)
      (by show 256 * cc.val + l.val = 128 * (2 * cc.val) + l.val; omega)
  · show Spec.scores x0 x1 x3 x4 (ValueIdx.ix3 ⟨2 * cc.val + 1, _⟩ ⟨72 * t.val + k.val, _⟩ ⟨l.val - 128, _⟩) = _
    rw [← ix3_eq_valueIdx]
    exact scores_apply _ _ _ _ _ _ _ _ _ _ (by show 72 * t.val + k.val = 18 * (4 * t.val + k.val / 18) + k.val % 18; omega)
      (by show 256 * cc.val + l.val = 128 * (2 * cc.val + 1) + (l.val - 128); omega)

theorem logits_apply (x0 : Vec Ideal S1x18x256x160 .fp8e4m3) (x1 : Vec Ideal S1x18x768x160 .fp8e4m3) (x3 : Vec Ideal S1x256x18 .f32)
    (x4 : Vec Ideal S1x18x768 .f32) (x6 : Vec Ideal S168x216 .bf16) (W : FVec Ideal S18x14 .f32)
    (hs : ∀ h i j, Fin' (sc x0 x1 x3 x4 h i j))
    (hz : ∀ (i : Fin 168) (k : Fin 216), k.val < 72 → 56 ≤ i.val → x6 (ix2 i k) = (0 : EReal))
    (hw : ∀ (r : Fin 56) (k : Fin 72), x6 (ix2 ⟨r.val, by omega⟩ ⟨k.val, by omega⟩)
      = (if r.val / 14 = k.val / 18 then (1 : EReal) else 0) * W (ix2 ⟨k.val % 18, by omega⟩ ⟨r.val % 14, by omega⟩))
    (t : Fin 64) (r : Fin 56) (j : Fin 768) :
    Spec.logits (Spec.scores x0 x1 x3 x4) x6 t (ix2 r j)
      = ∑ h : Fin 18, W (ix2 h ⟨r.val % 14, by omega⟩) * sc x0 x1 x3 x4 h ⟨4 * t.val + r.val / 14, by omega⟩ j := by
  show Spec.lchunk (Spec.scores x0 x1 x3 x4) x6 t ⟨j.val / 256, _⟩ (ValueIdx.ix2 r ⟨j.val % 256, _⟩) = _
  rw [← ix2_eq_valueIdx]
  unfold Spec.lchunk
  rw [pay2_eq _ _ _ _ _ (fun k l => by rw [pair_slab]; exact hs _ _ _) hz]
  refine sum_block (J := 4) (T := 18) rfl ⟨r.val / 14, by omega⟩ _ _ (fun k h hk => ?_) (fun k hk => ?_)
  · change k.val = r.val / 14 * 18 + h.val at hk
    rw [hw, pair_slab, if_pos (by omega), one_mul]
    have e1 : (⟨k.val % 18, by omega⟩ : Fin 18) = h := Fin.ext (by show k.val % 18 = h.val; omega)
    have e2 : (⟨4 * t.val + k.val / 18, by omega⟩ : Fin 256) = ⟨4 * t.val + r.val / 14, by omega⟩ := Fin.ext (by show 4 * t.val + k.val / 18 = 4 * t.val + r.val / 14; omega)
    have e3 : (⟨256 * (j.val / 256) + j.val % 256, by omega⟩ : Fin 768) = j := Fin.ext (by show 256 * (j.val / 256) + j.val % 256 = j.val; omega)
    rw [e1, e2, e3]
  · change k.val / 18 ≠ r.val / 14 at hk
    rw [hw, if_neg (fun e => hk e.symm), zero_mul, zero_mul]

/-! ## The softmax -/

/-- The logits without the logarithm's factor. -/
def lg (W : FVec Ideal S18x14 .f32) (rs : Fin 18 → Fin 256 → Fin 768 → EReal) (g : Fin 14) (i : Fin 256) (j : Fin 768) : EReal :=
  ∑ h : Fin 18, W (ix2 h g) * rs h i j

/-- The softmax of a row by exponentials. -/
def sm (l : Fin 768 → EReal) (j : Fin 768) : EReal :=
  Ideal.div (Ideal.exp (l j - Finset.univ.fold max ⊥ fun k => l k)) (∑ k : Fin 768, Ideal.exp (l k - Finset.univ.fold max ⊥ fun k => l k))

theorem ofBits_negInf : Ideal.ofBits .f32 0xFF800000#32 = ⊥ := by simp [Ideal.ofBits, Ideal.ieee]

theorem pay8_eq (x : Vec Ideal S56x768 .f32) (r : Fin 56) (j : Fin 768) (l : Fin 768 → EReal) (hl : ∀ j, Fin' (l j))
    (hx : ∀ j, x (ix2 r j) = l j * (((Real.log 2)⁻¹ : ℝ) : EReal)) :
    k0_pay8 x (ix2 r j) = sm l j ∧ Fin' (k0_pay8 x (ix2 r j)) := by
  have := softmax_eq l hl j
  rw [pay8_apply, ofBits_negInf]
  simp only [hx]
  exact this

/-! ## The weights -/

section Weights

variable (x0 : Vec Ideal S1x18x256x160 .fp8e4m3) (x1 : Vec Ideal S1x18x768x160 .fp8e4m3) (x3 : Vec Ideal S1x256x18 .f32)
    (x4 : Vec Ideal S1x18x768 .f32) (x5 : Vec Ideal S1x40x768 .f32) (x6 : Vec Ideal S168x216 .bf16) (x7 : Vec Ideal S80x224 .bf16)
    (W : FVec Ideal S18x14 .f32) (W2 : FVec Ideal S14x10 .f32) (rs : Fin 18 → Fin 256 → Fin 768 → EReal)
    (hW : ∀ i, Fin' (W i)) (hrs : ∀ h i j, Fin' (rs h i j))
    (hsc : ∀ h i j, sc x0 x1 x3 x4 h i j = rs h i j * (((Real.log 2)⁻¹ : ℝ) : EReal))
    (hz : ∀ (i : Fin 168) (k : Fin 216), k.val < 72 → 56 ≤ i.val → x6 (ix2 i k) = (0 : EReal))
    (hw : ∀ (r : Fin 56) (k : Fin 72), x6 (ix2 ⟨r.val, by omega⟩ ⟨k.val, by omega⟩)
      = (if r.val / 14 = k.val / 18 then (1 : EReal) else 0) * W (ix2 ⟨k.val % 18, by omega⟩ ⟨r.val % 14, by omega⟩))
    (hz7 : ∀ (i : Fin 80) (k : Fin 224), k.val < 112 → (40 ≤ i.val ∨ 56 ≤ k.val) → x7 (ix2 i k) = (0 : EReal))
    (hw7 : ∀ (r : Fin 40) (k : Fin 56), x7 (ix2 ⟨r.val, by omega⟩ ⟨k.val, by omega⟩)
      = (if r.val / 10 = k.val / 14 then (1 : EReal) else 0) * W2 (ix2 ⟨k.val % 14, by omega⟩ ⟨r.val % 10, by omega⟩))

include hW hrs in
theorem lg_fin (g : Fin 14) (i : Fin 256) (j : Fin 768) : Fin' (lg W rs g i j) :=
  Fin'.sum _ _ fun h => (hW _).mul (hrs _ _ _)

include hW hrs hsc hz hw in
theorem soft_apply (t : Fin 64) (r : Fin 56) (j : Fin 768) :
    k0_pay8 (Spec.logits (Spec.scores x0 x1 x3 x4) x6 t) (ix2 r j) = sm (lg W rs ⟨r.val % 14, by omega⟩ ⟨4 * t.val + r.val / 14, by omega⟩) j
      ∧ Fin' (k0_pay8 (Spec.logits (Spec.scores x0 x1 x3 x4) x6 t) (ix2 r j)) := by
  refine pay8_eq _ r j _ (fun j => lg_fin W rs hW hrs _ _ j) fun j => ?_
  rw [logits_apply x0 x1 x3 x4 x6 W (fun h i j => by rw [hsc]; exact (hrs _ _ _).mul (Fin'.coe _)) hz hw]
  unfold lg
  rw [← sum_mul_fin _ _ fun h => (hW _).mul (hrs _ _ _)]
  refine Finset.sum_congr rfl fun h _ => ?_
  rw [hsc, mul_assoc]

include hW hrs hsc hz hw hz7 hw7 in
theorem weights_apply (c : Fin 6) (r : Fin 2560) (l : Fin 128) (i : Fin 256) (q : Fin 10) (j : Fin 768)
    (hr : r.val = 10 * i.val + q.val) (hj : j.val = 128 * c.val + l.val) :
    Spec.weights (Spec.scores x0 x1 x3 x4) x5 x6 x7 (ix3 c r l)
      = (∑ g : Fin 14, W2 (ix2 g q) * sm (lg W rs g i) j) * x5 (ix3 0 ⟨r.val % 40, by omega⟩ j) := by
  show Spec.wchunk (Spec.logits (Spec.scores x0 x1 x3 x4) x6 ⟨r.val / 40, _⟩) x5 x7 ⟨c.val / 2, _⟩ (ValueIdx.ix2 ⟨r.val % 40, _⟩ ⟨128 * (c.val % 2) + l.val, _⟩) = _
  rw [← ix2_eq_valueIdx]
  unfold Spec.wchunk
  have ej : (⟨256 * (c.val / 2) + (128 * (c.val % 2) + l.val), by omega⟩ : Fin 768) = j := Fin.ext (by show 256 * (c.val / 2) + (128 * (c.val % 2) + l.val) = j.val; omega)
  have hp : ∀ (t : Fin 64) (cc : Fin 3) (k : Fin 56) (l : Fin 256), Spec.pslice (k0_pay8 (Spec.logits (Spec.scores x0 x1 x3 x4) x6 t)) cc (ix2 k l)
      = k0_pay8 (Spec.logits (Spec.scores x0 x1 x3 x4) x6 t) (ix2 k ⟨256 * cc.val + l.val, by omega⟩) := fun t cc k l => by
    show k0_pay8 (Spec.logits (Spec.scores x0 x1 x3 x4) x6 t) (ValueIdx.ix2 k ⟨256 * cc.val + l.val, _⟩) = _
    rw [← ix2_eq_valueIdx]
  rw [pay17_eq _ _ _ _ _ (fun k l => by rw [hp]; exact (soft_apply x0 x1 x3 x4 x6 W rs hW hrs hsc hz hw _ _ _).2) hz7]
  refine congr (congrArg _ ?_) ?_
  · refine sum_block (J := 4) (T := 14) rfl ⟨r.val % 40 / 10, by omega⟩ _ _ (fun k g hk => ?_) (fun k hk => ?_)
    · change k.val = r.val % 40 / 10 * 14 + g.val at hk
      rw [hw7 ⟨r.val % 40, by omega⟩ k, hp, (soft_apply x0 x1 x3 x4 x6 W rs hW hrs hsc hz hw _ _ _).1, if_pos (by show r.val % 40 / 10 = k.val / 14; omega), one_mul]
      have e1 : (⟨k.val % 14, by omega⟩ : Fin 14) = g := Fin.ext (by show k.val % 14 = g.val; omega)
      have e2 : (⟨r.val % 40 % 10, by omega⟩ : Fin 10) = q := Fin.ext (by show r.val % 40 % 10 = q.val; omega)
      have e3 : (⟨4 * (r.val / 40) + k.val / 14, by omega⟩ : Fin 256) = i := Fin.ext (by show 4 * (r.val / 40) + k.val / 14 = i.val; omega)
      rw [e1, e2, e3, ej]
    · change k.val / 14 ≠ r.val % 40 / 10 at hk
      rw [hw7 ⟨r.val % 40, by omega⟩ k, if_neg (fun e => hk e.symm), zero_mul, zero_mul]
  · show x5 (ValueIdx.ix3 0 ⟨r.val % 40, _⟩ ⟨256 * (c.val / 2) + (128 * (c.val % 2) + l.val), _⟩) = _
    rw [← ix3_eq_valueIdx, ej]

include hW hrs hsc hz hw hz7 hw7 in
/-- The result's block. -/
theorem out_apply (x2 : Vec Ideal S1x10x768x160 .fp8e4m3) (i : Fin 256) (n : Fin 1600) :
    Spec.out x0 x1 x2 x3 x4 x5 x6 x7 (ix3 0 i n)
      = ∑ j : Fin 768, x2 (ix4 0 ⟨n.val / 160, by omega⟩ j ⟨n.val % 160, by omega⟩)
          * ((∑ g : Fin 14, W2 (ix2 g ⟨n.val / 160, by omega⟩) * sm (lg W rs g i) j) * x5 (ix3 0 ⟨(10 * i.val + n.val / 160) % 40, by omega⟩ j)) := by
  unfold Spec.out
  show Spec.outh (Spec.weights (Spec.scores x0 x1 x3 x4) x5 x6 x7) x2 ⟨n.val / 160, _⟩ (ValueIdx.ix3 0 i ⟨n.val % 160, _⟩) = _
  rw [← ix3_eq_valueIdx]
  unfold Spec.outh
  rw [pay222_apply]
  refine Finset.sum_congr rfl fun j _ => ?_
  rw [six_apply (fun c => Spec.prow (Spec.weights (Spec.scores x0 x1 x3 x4) x5 x6 x7) ⟨n.val / 160, by omega⟩ c) i j, mul_comm]
  refine congr (congrArg _ ?_) ?_
  · show x2 (ValueIdx.ix4 0 ⟨n.val / 160, _⟩ j ⟨n.val % 160, _⟩) = _
    rw [← ix4_eq_valueIdx]
  · show Spec.weights (Spec.scores x0 x1 x3 x4) x5 x6 x7 (ValueIdx.ix3 ⟨j.val / 128, _⟩ ⟨10 * i.val + n.val / 160, _⟩ ⟨j.val % 128, _⟩) = _
    rw [← ix3_eq_valueIdx]
    exact weights_apply x0 x1 x3 x4 x5 x6 x7 W W2 rs hW hrs hsc hz hw hz7 hw7 _ _ _ i ⟨n.val / 160, by omega⟩ j rfl
      (by show j.val = 128 * (j.val / 128) + j.val % 128; omega)

end Weights

end Cert.KernelIdeal.Point

namespace Cert.Equation

open Idealize.ShloMosaic Idealize.ShloMosaic.TcCoe
open Cert.KernelIdeal Cert.KernelIdeal.Gen Cert.KernelIdeal.Point Cert.KernelIdeal.HostValues Cert.Softmax
open Cert.ReferenceIdeal.RefValue (rS rL rE rA rO rS_apply rL_apply rE_apply rA_apply rO_apply)

/-- The reference's scale: one over the root of 160. -/
theorem ref_scale : Ideal.div 1 (Ideal.sqrt (Ideal.ofBits .f32 0x43200000#32)) = (((Real.sqrt 160)⁻¹ : ℝ) : EReal) := by
  have h160 : Ideal.ofBits .f32 0x43200000#32 = ((160 : ℝ) : EReal) := by
    simp only [Ideal.ofBits, Ideal.ieee]
    simp
    rw [← EReal.coe_mul]
    norm_num
  have hs : Ideal.sqrt ((160 : ℝ) : EReal) = ((Real.sqrt 160 : ℝ) : EReal) := by
    show (if (160 : ℝ) < 0 then ⊥ else ((Real.sqrt 160 : ℝ) : EReal)) = _
    rw [if_neg (by norm_num)]
  have hn : Real.sqrt 160 ≠ 0 := (Real.sqrt_pos.2 (by norm_num)).ne'
  rw [h160, hs, Ideal.div_coe hn, one_mul, one_div]

/-- The softmax of the reference at an index. -/
theorem rA_sm (l : FVec Ideal Cert.ReferenceIdeal.S2x14x768x768 .f32) (b : Fin 2) (g : Fin 14) (i j : Fin 768) :
    rA l (ix4 b g i j) = sm (fun k => l (ix4 b g i k)) j := by
  rw [rA_apply]
  simp only [rE_apply]
  rfl

section

variable (m : (ℓ : Loc nD τ sig) → Buf (Elt Ideal) ℓ) (c : Dev nD)

/-- The arguments, as arrays. -/
abbrev a0 : FVec Ideal S2x768x18x160 .f32 := m ((c.tc : Thread nD τ).loc main_arg0)
abbrev a1 : FVec Ideal S2x768x18 .f32 := m ((c.tc : Thread nD τ).loc main_arg1)
abbrev a2 : FVec Ideal S2x768x18x160 .f32 := m ((c.tc : Thread nD τ).loc main_arg2)
abbrev a3 : FVec Ideal S2x768x18 .f32 := m ((c.tc : Thread nD τ).loc main_arg3)
abbrev a4 : FVec Ideal S2x768x10x160 .fp8e4m3 := m ((c.tc : Thread nD τ).loc main_arg4)
abbrev a5 : FVec Ideal S2x768x10 .f32 := m ((c.tc : Thread nD τ).loc main_arg5)
abbrev a6 : FVec Ideal S18x14 .f32 := m ((c.tc : Thread nD τ).loc main_arg6)
abbrev a7 : FVec Ideal S14x10 .f32 := m ((c.tc : Thread nD τ).loc main_arg7)

/-- The reference's result of these arguments. -/
def ref : FVec Ideal S2x768x1600 .bf16 := rO (a4 m c) (a7 m c) (a5 m c) (rA (rL (a6 m c) (rS (a0 m c) (a2 m c) (a1 m c) (a3 m c))))

/-! ## The input blocks of a point -/

theorem b0 (t : Fin 6) (h : Fin 18) (i : Fin 256) (d : Fin 160) : (iblk m c 0 t : Vec Ideal S1x18x256x160 .fp8e4m3) (ix4 0 h i d)
    = a0 m c (ix4 ⟨t.val / 3, by omega⟩ ⟨256 * (t.val % 3) + i.val, by omega⟩ h d) := by
  refine (Value.iblk_0 m c t _).trans ?_
  show V m c main_v2 (ValueIdx.ix4 ⟨t.val / 3, _⟩ h ⟨256 * (t.val % 3) + i.val, _⟩ d) = _
  rw [← ix4_eq_valueIdx, v2_apply]

theorem b1 (t : Fin 6) (h : Fin 18) (i : Fin 768) (d : Fin 160) : (iblk m c 1 t : Vec Ideal S1x18x768x160 .fp8e4m3) (ix4 0 h i d)
    = a2 m c (ix4 ⟨t.val / 3, by omega⟩ i h d) := by
  refine (Value.iblk_1 m c t _).trans ?_
  show V m c main_v3 (ValueIdx.ix4 ⟨t.val / 3, _⟩ h i d) = _
  rw [← ix4_eq_valueIdx, v3_apply]

theorem b2 (t : Fin 6) (h : Fin 10) (i : Fin 768) (d : Fin 160) : (iblk m c 2 t : Vec Ideal S1x10x768x160 .fp8e4m3) (ix4 0 h i d)
    = a4 m c (ix4 ⟨t.val / 3, by omega⟩ i h d) := by
  refine (Value.iblk_2 m c t _).trans ?_
  show V m c main_v4 (ValueIdx.ix4 ⟨t.val / 3, _⟩ h i d) = _
  rw [← ix4_eq_valueIdx, v4_apply]

theorem b3 (t : Fin 6) (i : Fin 256) (h : Fin 18) : (iblk m c 3 t : Vec Ideal S1x256x18 .f32) (ix3 0 i h)
    = a1 m c (ix3 ⟨t.val / 3, by omega⟩ ⟨256 * (t.val % 3) + i.val, by omega⟩ h) := by
  refine (Value.iblk_3 m c t _).trans ?_
  show V m c main_arg1 (ValueIdx.ix3 ⟨t.val / 3, _⟩ ⟨256 * (t.val % 3) + i.val, _⟩ h) = _
  rw [← ix3_eq_valueIdx, V_main_arg1]

theorem b4 (t : Fin 6) (h : Fin 18) (j : Fin 768) : (iblk m c 4 t : Vec Ideal S1x18x768 .f32) (ix3 0 h j)
    = a3 m c (ix3 ⟨t.val / 3, by omega⟩ j h) := by
  refine (Value.iblk_4 m c t _).trans ?_
  show V m c main_v5 (ValueIdx.ix3 ⟨t.val / 3, _⟩ h j) = _
  rw [← ix3_eq_valueIdx, v5_apply]

theorem b5 (t : Fin 6) (r : Fin 40) (j : Fin 768) : (iblk m c 5 t : Vec Ideal S1x40x768 .f32) (ix3 0 r j)
    = a5 m c (ix3 ⟨t.val / 3, by omega⟩ j ⟨r.val % 10, by omega⟩) := by
  refine (Value.iblk_5 m c t _).trans ?_
  show V m c main_v9 (ValueIdx.ix3 ⟨t.val / 3, _⟩ r j) = _
  rw [← ix3_eq_valueIdx, v9_apply]

theorem b6 (t : Fin 6) (y : S168x216.Idx) : (iblk m c 6 t : Vec Ideal S168x216 .bf16) y = lhsA (a6 m c) y := by
  rw [Value.iblk_6, V_main_v60]

theorem b7 (t : Fin 6) (y : S80x224.Idx) : (iblk m c 7 t : Vec Ideal S80x224 .bf16) y = lhsB (a7 m c) y := by
  rw [Value.iblk_7, V_main_v110]

/-! ## The result -/

variable (h0 : ∀ i, Fin' (a0 m c i)) (h1 : ∀ i, Fin' (a1 m c i)) (h2 : ∀ i, Fin' (a2 m c i)) (h3 : ∀ i, Fin' (a3 m c i))
  (h6 : ∀ i, Fin' (a6 m c i)) (h7 : ∀ i, Fin' (a7 m c i))

include h0 h1 h2 h3 in
theorem rS_fin (b : Fin 2) (h : Fin 18) (i j : Fin 768) : Fin' (rS (a0 m c) (a2 m c) (a1 m c) (a3 m c) (ix4 b h i j)) := by
  rw [rS_apply, ref_scale]
  exact (((Fin'.sum _ _ fun d => (h0 _).mul (h2 _)).mul (h1 _)).mul (h3 _)).mul (Fin'.coe _)

/-- A score of the body is the reference's over the logarithm of two. -/
theorem sc_eq (t : Fin 6) (h : Fin 18) (i : Fin 256) (j : Fin 768) :
    sc (iblk m c 0 t) (iblk m c 1 t) (iblk m c 3 t) (iblk m c 4 t) h i j
      = rS (a0 m c) (a2 m c) (a1 m c) (a3 m c) (ix4 ⟨t.val / 3, by omega⟩ h ⟨256 * (t.val % 3) + i.val, by omega⟩ j) * (((Real.log 2)⁻¹ : ℝ) : EReal) := by
  rw [rS_apply, ref_scale]
  unfold sc
  simp only [b0, b1, b3, b4]
  rw [show scale = (((Real.sqrt 160)⁻¹ : ℝ) : EReal) * (((Real.log 2)⁻¹ : ℝ) : EReal) from EReal.coe_mul _ _]
  ac_rfl

include h0 h1 h2 h3 h6 h7 in
theorem block_eq (t : Fin 6) (i : Fin 256) (n : Fin 1600) :
    Value.blockOut m c t (ix3 0 i n) = ref m c (ix3 ⟨t.val / 3, by omega⟩ ⟨256 * (t.val % 3) + i.val, by omega⟩ n) := by
  unfold Value.blockOut ref
  rw [out_apply (iblk m c 0 t) (iblk m c 1 t) (iblk m c 3 t) (iblk m c 4 t) (iblk m c 5 t) (iblk m c 6 t) (iblk m c 7 t) (a6 m c) (a7 m c)
    (fun h i j => rS (a0 m c) (a2 m c) (a1 m c) (a3 m c) (ix4 ⟨t.val / 3, by omega⟩ h ⟨256 * (t.val % 3) + i.val, by omega⟩ j))
    h6 (fun h i j => rS_fin m c h0 h1 h2 h3 _ _ _ _) (sc_eq m c t)
    (fun i k hk hi => (b6 m c t _).trans (lhsA_zero _ h6 i k hk hi)) (fun r k => (b6 m c t _).trans (lhsA_apply _ r k))
    (fun i k hk hi => (b7 m c t _).trans (lhsB_zero _ h7 i k hk hi)) (fun r k => (b7 m c t _).trans (lhsB_apply _ r k)), rO_apply]
  refine Finset.sum_congr rfl fun j _ => ?_
  rw [b2, b5]
  have eh : (⟨(10 * i.val + n.val / 160) % 40 % 10, by omega⟩ : Fin 10) = ⟨n.val / 160, by omega⟩ := Fin.ext (by show (10 * i.val + n.val / 160) % 40 % 10 = n.val / 160; omega)
  rw [eh]
  refine congrArg _ (congr (congrArg _ (Finset.sum_congr rfl fun g _ => ?_)) rfl)
  rw [rA_sm]
  refine congrArg (fun l => (a7 m c (ix2 g ⟨n.val / 160, by omega⟩) : EReal) * sm l j) (funext fun k => ?_)
  rw [rL_apply]
  rfl

include h0 h1 h2 h3 h6 h7 in
theorem result_eq : Value.result m c = ref m c := by
  have key : ∀ (b : Fin 2) (q : Fin 768) (n : Fin 1600), Value.result m c (ix3 b q n) = ref m c (ix3 b q n) := fun b q n => by
    show Value.blockOut m c (⟨3 * b.val + q.val / 256, _⟩ : Fin 6) (ValueIdx.ix3 0 ⟨q.val % 256, _⟩ n) = _
    rw [← ix3_eq_valueIdx, block_eq m c h0 h1 h2 h3 h6 h7]
    have e1 : (⟨(3 * b.val + q.val / 256) / 3, by omega⟩ : Fin 2) = b := Fin.ext (by show (3 * b.val + q.val / 256) / 3 = b.val; omega)
    have e2 : (⟨256 * ((3 * b.val + q.val / 256) % 3) + q.val % 256, by omega⟩ : Fin 768) = q := Fin.ext (by show 256 * ((3 * b.val + q.val / 256) % 3) + q.val % 256 = q.val; omega)
    rw [e1, e2]
  funext y
  rw [eq_ix3 y]
  exact key _ _ _

end

/-- The reference's result from a memory that holds the same arguments. -/
theorem value_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (e0 : m' ((c.tc : Thread Cert.ReferenceIdeal.nD Cert.ReferenceIdeal.τ).loc Cert.ReferenceIdeal.main_arg0) = a0 m c)
    (e1 : m' ((c.tc : Thread Cert.ReferenceIdeal.nD Cert.ReferenceIdeal.τ).loc Cert.ReferenceIdeal.main_arg1) = a1 m c)
    (e2 : m' ((c.tc : Thread Cert.ReferenceIdeal.nD Cert.ReferenceIdeal.τ).loc Cert.ReferenceIdeal.main_arg2) = a2 m c)
    (e3 : m' ((c.tc : Thread Cert.ReferenceIdeal.nD Cert.ReferenceIdeal.τ).loc Cert.ReferenceIdeal.main_arg3) = a3 m c)
    (e4 : m' ((c.tc : Thread Cert.ReferenceIdeal.nD Cert.ReferenceIdeal.τ).loc Cert.ReferenceIdeal.main_arg4) = a4 m c)
    (e5 : m' ((c.tc : Thread Cert.ReferenceIdeal.nD Cert.ReferenceIdeal.τ).loc Cert.ReferenceIdeal.main_arg5) = a5 m c)
    (e6 : m' ((c.tc : Thread Cert.ReferenceIdeal.nD Cert.ReferenceIdeal.τ).loc Cert.ReferenceIdeal.main_arg6) = a6 m c)
    (e7 : m' ((c.tc : Thread Cert.ReferenceIdeal.nD Cert.ReferenceIdeal.τ).loc Cert.ReferenceIdeal.main_arg7) = a7 m c) :
    Cert.ReferenceIdeal.RefValue.value m' c = ref m c := by
  have r0 := (Cert.ReferenceIdeal.RefValue.reg_3 m' c).trans e0
  have r1 := (Cert.ReferenceIdeal.RefValue.reg_4 m' c).trans e2
  have r2 := (Cert.ReferenceIdeal.RefValue.reg_5 m' c).trans e4
  unfold Cert.ReferenceIdeal.RefValue.value ref
  rw [r0, r1, r2, e1, e3, e5, e6, e7]

end Cert.Equation

end
-- ==== Proof.lean ====
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Finite
public import proofs.«01_k».proof.Proof.Equation

@[expose] public section

noncomputable section

namespace Cert.Proof

open Idealize.ShloMosaic Idealize.SL.Sem

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨Cert.KernelIdeal.Value.result m, Cert.KernelIdeal.Value.run_value m g, ?_⟩
  refine (θ_run _ _ _).mono (fun _ h c => ⟨((h c).1).trans ?_, (h c).2⟩) (Cert.ReferenceIdeal.RefValue.run m' g')
  obtain ⟨e0, e1, e2, e3, e4, e5, e6, e7⟩ := hagree c
  obtain ⟨f0, f1, f2, f3, f6, f7⟩ := @Cert.Pre_finite.reals Cert.Pre_finite.facts _ _ _ _ _ _ _ _ (fun k => k.elim0) (congrFun (hpre c) (fun k => k.elim0))
  exact (Cert.Equation.value_eq m m' c e0 e1 e2 e3 e4 e5 e6 e7).trans (Cert.Equation.result_eq m c f0 f1 f2 f3 f6 f7).symm

theorem claim : Cert.Claim :=
  ⟨Cert.Kernel.Gen.facts, Cert.KernelIdeal.Gen.facts, Cert.ReferenceIdeal.Gen.facts, Cert.Pre_finite.facts,
    fun m ρ _ => Cert.Kernel.Body.frame m ρ,
    fun m ρ _ => Cert.KernelIdeal.Body.frame m ρ,
    fun m ρ _ => Cert.KernelIdeal.Body.frame m ρ,
    fun m ρ _ => Cert.ReferenceIdeal.Gen.frame m ρ,
    fun m ρ _ => Cert.ReferenceIdeal.Gen.frame m ρ,
    ⟨IdealRules.named_const.statement Cert.KernelIdeal.κ "log2e_over_sqrt_d" .f32 0x3DE995B3#32
      (((Real.sqrt 160)⁻¹ * (Real.log 2)⁻¹ : ℝ) : EReal) rfl,
    IdealRules.bf16_pack.statement Cert.KernelIdeal.S72x256,
    IdealRules.bf16_pack.statement Cert.KernelIdeal.S56x256⟩,
    algebraic⟩

end Cert.Proof

end
